-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S128x512x3 : Shape := ⟨3, ![128, 512, 3]⟩
abbrev S128 : Shape := ⟨1, ![128]⟩
abbrev S29x32 : Shape := ⟨2, ![29, 32]⟩
abbrev S5x32 : Shape := ⟨2, ![5, 32]⟩
abbrev S4x32 : Shape := ⟨2, ![4, 32]⟩
abbrev S8x32 : Shape := ⟨2, ![8, 32]⟩
abbrev S49184x512 : Shape := ⟨2, ![49184, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S128x1x1 : Shape := ⟨3, ![128, 1, 1]⟩

class Facts : Prop where
  bcast_S_S128x512x3 : S_.BroadcastsInDim S128x512x3 (![] : Fin 0 → Fin S128x512x3.rank)
  bcast_S_S128 : S_.BroadcastsInDim S128 (![] : Fin 0 → Fin S128.rank)
  bcast_S128_S128x1x1_0 : S128.BroadcastsInDim S128x1x1 (![0] : Fin 1 → Fin S128x1x1.rank)
  bcast_S128x1x1_S128x512x3_0_1_2 : S128x1x1.BroadcastsInDim S128x512x3 (![0, 1, 2] : Fin 3 → Fin S128x512x3.rank)

variable [Facts]

def fn {F : FTy → Type} [FloatOps F] (main_arg0 : IVec S128x512x3 32) (main_arg1 : IVec S128 32) (main_arg2 : FVec F S29x32 .f32) (main_arg3 : FVec F S5x32 .f32) (main_arg4 : FVec F S4x32 .f32) (main_arg5 : FVec F S8x32 .f32) (main_arg6 : FVec F S49184x512 .f32) (main_arg7 : FVec F S512 .f32) (main_arg8 : FVec F S512x256 .f32) (main_arg9 : FVec F S256 .f32) (main_arg10 : FVec F S256x1 .f32) (main_arg11 : FVec F S1 .f32) : IVec S128x512x3 1 :=
  let main_c : IVec S_ 32 := constantI S_ 32 0#32
  let main_v0 : IVec S128x512x3 32 := broadcastInDim S128x512x3 ![] bcast_S_S128x512x3 main_c
  let main_v1 : IVec S128x512x3 1 := cmpi .sge main_arg0 main_v0
  let main_c_0 : IVec S_ 32 := constantI S_ 32 4#32
  let main_v2 : IVec S128x512x3 32 := broadcastInDim S128x512x3 ![] bcast_S_S128x512x3 main_c_0
  let main_v3 : IVec S128x512x3 1 := cmpi .slt main_arg0 main_v2
  let main_v4 : IVec S128x512x3 1 := andi main_v1 main_v3
  let main_c_1 : IVec S_ 32 := constantI S_ 32 0#32
  let main_v5 : IVec S128 32 := broadcastInDim S128 ![] bcast_S_S128 main_c_1
  let main_v6 : IVec S128 1 := cmpi .sge main_arg1 main_v5
  let main_c_2 : IVec S_ 32 := constantI S_ 32 29#32
  let main_v7 : IVec S128 32 := broadcastInDim S128 ![] bcast_S_S128 main_c_2
  let main_v8 : IVec S128 1 := cmpi .slt main_arg1 main_v7
  let main_v9 : IVec S128 1 := andi main_v6 main_v8
  let main_v10 : IVec S128x1x1 1 := broadcastInDim S128x1x1 ![0] bcast_S128_S128x1x1_0 main_v9
  let main_v11 : IVec S128x512x3 1 := broadcastInDim S128x512x3 ![0, 1, 2] bcast_S128x1x1_S128x512x3_0_1_2 main_v10
  let main_v12 : IVec S128x512x3 1 := andi main_v4 main_v11
  main_v12
-- ==== Kernel.lean ====
abbrev S128x512x3 : Shape := ⟨3, ![128, 512, 3]⟩
abbrev S128 : Shape := ⟨1, ![128]⟩
abbrev S29x32 : Shape := ⟨2, ![29, 32]⟩
abbrev S5x32 : Shape := ⟨2, ![5, 32]⟩
abbrev S4x32 : Shape := ⟨2, ![4, 32]⟩
abbrev S8x32 : Shape := ⟨2, ![8, 32]⟩
abbrev S49184x512 : Shape := ⟨2, ![49184, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S64x32 : Shape := ⟨2, ![64, 32]⟩
abbrev S32x64 : Shape := ⟨2, ![32, 64]⟩
abbrev S1x128 : Shape := ⟨2, ![1, 128]⟩
abbrev S128x512x1 : Shape := ⟨3, ![128, 512, 1]⟩
abbrev S128x512 : Shape := ⟨2, ![128, 512]⟩
abbrev S512x128 : Shape := ⟨2, ![512, 128]⟩
abbrev S1537x128 : Shape := ⟨2, ![1537, 128]⟩
abbrev S1536x128 : Shape := ⟨2, ![1536, 128]⟩
abbrev S12x16384 : Shape := ⟨2, ![12, 16384]⟩
abbrev S1x512 : Shape := ⟨2, ![1, 512]⟩
abbrev S1x256 : Shape := ⟨2, ![1, 256]⟩
abbrev S1x1 : Shape := ⟨2, ![1, 1]⟩
abbrev S128x1 : Shape := ⟨2, ![128, 1]⟩
abbrev S4096x512 : Shape := ⟨2, ![4096, 512]⟩
abbrev S32x512 : Shape := ⟨2, ![32, 512]⟩
abbrev S4096x128 : Shape := ⟨2, ![4096, 128]⟩
abbrev S32x40 : Shape := ⟨2, ![32, 40]⟩
abbrev S1x4096 : Shape := ⟨2, ![1, 4096]⟩
abbrev S40x4096 : Shape := ⟨2, ![40, 4096]⟩
abbrev S32x4096 : Shape := ⟨2, ![32, 4096]⟩
abbrev S32x128 : Shape := ⟨2, ![32, 128]⟩
abbrev S32x8 : Shape := ⟨2, ![32, 8]⟩
abbrev S8x4096 : Shape := ⟨2, ![8, 4096]⟩
abbrev S32x16 : Shape := ⟨2, ![32, 16]⟩
abbrev S16x4096 : Shape := ⟨2, ![16, 4096]⟩
abbrev S64x128 : Shape := ⟨2, ![64, 128]⟩
abbrev S128x256 : Shape := ⟨2, ![128, 256]⟩

abbrev nBuf : Space → Nat
  | .hbm => 54
  | .vmem => 14
  | .smem => 0
  | _ => 0

abbrev bufTy : (tb : Table) → Fin (tcTables nBuf tb) → BufTy
  | .hbm, ⟨0, _⟩ => ⟨S128x512x3, .i32⟩
  | .hbm, ⟨1, _⟩ => ⟨S128, .i32⟩
  | .hbm, ⟨2, _⟩ => ⟨S29x32, .f32⟩
  | .hbm, ⟨3, _⟩ => ⟨S5x32, .f32⟩
  | .hbm, ⟨4, _⟩ => ⟨S4x32, .f32⟩
  | .hbm, ⟨5, _⟩ => ⟨S8x32, .f32⟩
  | .hbm, ⟨6, _⟩ => ⟨S49184x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S_, .f32⟩
  | .hbm, ⟨13, _⟩ => ⟨S64x32, .f32⟩
  | .hbm, ⟨14, _⟩ => ⟨S_, .i32⟩
  | .hbm, ⟨15, _⟩ => ⟨S1, .i32⟩
  | .hbm, ⟨16, _⟩ => ⟨S64x32, .f32⟩
  | .hbm, ⟨17, _⟩ => ⟨S_, .i32⟩
  | .hbm, ⟨18, _⟩ => ⟨S1, .i32⟩
  | .hbm, ⟨19, _⟩ => ⟨S64x32, .f32⟩
  | .hbm, ⟨20, _⟩ => ⟨S_, .i32⟩
  | .hbm, ⟨21, _⟩ => ⟨S1, .i32⟩
  | .hbm, ⟨22, _⟩ => ⟨S64x32, .f32⟩
  | .hbm, ⟨23, _⟩ => ⟨S_, .i32⟩
  | .hbm, ⟨24, _⟩ => ⟨S1, .i32⟩
  | .hbm, ⟨25, _⟩ => ⟨S64x32, .f32⟩
  | .hbm, ⟨26, _⟩ => ⟨S32x64, .f32⟩
  | .hbm, ⟨27, _⟩ => ⟨S1x128, .i32⟩
  | .hbm, ⟨28, _⟩ => ⟨S128x512x1, .i32⟩
  | .hbm, ⟨29, _⟩ => ⟨S128x512, .i32⟩
  | .hbm, ⟨30, _⟩ => ⟨S512x128, .i32⟩
  | .hbm, ⟨31, _⟩ => ⟨S_, .i32⟩
  | .hbm, ⟨32, _⟩ => ⟨S512x128, .i32⟩
  | .hbm, ⟨33, _⟩ => ⟨S512x128, .i32⟩
  | .hbm, ⟨34, _⟩ => ⟨S128x512x1, .i32⟩
  | .hbm, ⟨35, _⟩ => ⟨S128x512, .i32⟩
  | .hbm, ⟨36, _⟩ => ⟨S512x128, .i32⟩
  | .hbm, ⟨37, _⟩ => ⟨S_, .i32⟩
  | .hbm, ⟨38, _⟩ => ⟨S512x128, .i32⟩
  | .hbm, ⟨39, _⟩ => ⟨S512x128, .i32⟩
  | .hbm, ⟨40, _⟩ => ⟨S128x512x1, .i32⟩
  | .hbm, ⟨41, _⟩ => ⟨S128x512, .i32⟩
  | .hbm, ⟨42, _⟩ => ⟨S512x128, .i32⟩
  | .hbm, ⟨43, _⟩ => ⟨S_, .i32⟩
  | .hbm, ⟨44, _⟩ => ⟨S512x128, .i32⟩
  | .hbm, ⟨45, _⟩ => ⟨S512x128, .i32⟩
  | .hbm, ⟨46, _⟩ => ⟨S1537x128, .i32⟩
  | .hbm, ⟨47, _⟩ => ⟨S1536x128, .i32⟩
  | .hbm, ⟨48, _⟩ => ⟨S12x16384, .i32⟩
  | .hbm, ⟨49, _⟩ => ⟨S1x128, .i32⟩
  | .hbm, ⟨50, _⟩ => ⟨S1x512, .f32⟩
  | .hbm, ⟨51, _⟩ => ⟨S1x256, .f32⟩
  | .hbm, ⟨52, _⟩ => ⟨S1x1, .f32⟩
  | .hbm, ⟨53, _⟩ => ⟨S128x1, .f32⟩
  | .local _ .vmem, ⟨0, _⟩ => ⟨S12x16384, .i32⟩
  | .local _ .vmem, ⟨1, _⟩ => ⟨S1x128, .i32⟩
  | .local _ .vmem, ⟨2, _⟩ => ⟨S32x64, .f32⟩
  | .local _ .vmem, ⟨3, _⟩ => ⟨S4096x512, .f32⟩
  | .local _ .vmem, ⟨4, _⟩ => ⟨S4096x512, .f32⟩
  | .local _ .vmem, ⟨5, _⟩ => ⟨S32x512, .f32⟩
  | .local _ .vmem, ⟨6, _⟩ => ⟨S1x512, .f32⟩
  | .local _ .vmem, ⟨7, _⟩ => ⟨S512x256, .f32⟩
  | .local _ .vmem, ⟨8, _⟩ => ⟨S1x256, .f32⟩
  | .local _ .vmem, ⟨9, _⟩ => ⟨S256x1, .f32⟩
  | .local _ .vmem, ⟨10, _⟩ => ⟨S1x1, .f32⟩
  | .local _ .vmem, ⟨11, _⟩ => ⟨S128x1, .f32⟩
  | .local _ .vmem, ⟨12, _⟩ => ⟨S128x512, .f32⟩
  | .local _ .vmem, ⟨13, _⟩ => ⟨S4096x128, .bf16⟩
  | _, _ => ⟨S128x512x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg0 : BitVec 32 := BitVec.ofNat 32 (i 0).val
  let v38 : Index := Scalar.indexCast arg0
  let c0_20 : Index := 0#32
  ![v38.toNat, 0]
def k0_off2 (i : grid0.Coords) : Fin 2 → Nat :=
  let arg0 : BitVec 32 := BitVec.ofNat 32 (i 0).val
  let v179 : Index := Scalar.indexCast arg0
  let c4096 : Index := 4096#32
  ![v179.toNat, 4096]
def k0_off3 (i : grid0.Coords) : Fin 2 → Nat :=
  let arg0 : BitVec 32 := BitVec.ofNat 32 (i 0).val
  let v320 : Index := Scalar.indexCast arg0
  let c8192 : Index := 8192#32
  ![v320.toNat, 8192]
def k0_off4 (i : grid0.Coords) : Fin 2 → Nat :=
  let arg0 : BitVec 32 := BitVec.ofNat 32 (i 0).val
  let v461 : Index := Scalar.indexCast arg0
  let c12288 : Index := 12288#32
  ![v461.toNat, 12288]
def k0_cond3 (i : grid0.Coords) : BitVec 1 :=
  let arg0 : BitVec 32 := BitVec.ofNat 32 (i 0).val
  let c1_i32 : BitVec 32 := 1#32
  let v9 : BitVec 1 := Scalar.cmpi .sge arg0 c1_i32
  let c4_i32 : BitVec 32 := 4#32
  let v10 : BitVec 1 := Scalar.cmpi .slt arg0 c4_i32
  let v11 : BitVec 1 := Scalar.andi v9 v10
  let v12 : BitVec 32 := Scalar.extui v11
  let c0_i32_4 : BitVec 32 := 0#32
  let v13 : BitVec 1 := Scalar.cmpi .ne v12 c0_i32_4
  v13

def k0_off5 (i : grid0.Coords) : Fin 2 → Nat :=
  let arg0 : BitVec 32 := BitVec.ofNat 32 (i 0).val
  let v38 : Index := Scalar.indexCast arg0
  let c0_20 : Index := 0#32
  ![v38.toNat, 0]
def k0_off6 (i : grid0.Coords) : Fin 2 → Nat :=
  let arg0 : BitVec 32 := BitVec.ofNat 32 (i 0).val
  let v179 : Index := Scalar.indexCast arg0
  let c4096 : Index := 4096#32
  ![v179.toNat, 4096]
def k0_off7 (i : grid0.Coords) : Fin 2 → Nat :=
  let arg0 : BitVec 32 := BitVec.ofNat 32 (i 0).val
  let v320 : Index := Scalar.indexCast arg0
  let c8192 : Index := 8192#32
  ![v320.toNat, 8192]
def k0_off8 (i : grid0.Coords) : Fin 2 → Nat :=
  let arg0 : BitVec 32 := BitVec.ofNat 32 (i 0).val
  let v461 : Index := Scalar.indexCast arg0
  let c12288 : Index := 12288#32
  ![v461.toNat, 12288]
def k0_cond4 (i : grid0.Coords) : BitVec 1 :=
  let arg0 : BitVec 32 := BitVec.ofNat 32 (i 0).val
  let c4_i32_5 : BitVec 32 := 4#32
  let v14 : BitVec 1 := Scalar.cmpi .eq arg0 c4_i32_5
  let v15 : BitVec 32 := Scalar.extui v14
  let c0_i32_6 : BitVec 32 := 0#32
  let v16 : BitVec 1 := Scalar.cmpi .ne v15 c0_i32_6
  v16

def k0_off9 (i : grid0.Coords) : Fin 2 → Nat :=
  let arg0 : BitVec 32 := BitVec.ofNat 32 (i 0).val
  let v38 : Index := Scalar.indexCast arg0
  let c0_20 : Index := 0#32
  ![v38.toNat, 0]
def k0_off10 (i : grid0.Coords) : Fin 2 → Nat :=
  let arg0 : BitVec 32 := BitVec.ofNat 32 (i 0).val
  let v179 : Index := Scalar.indexCast arg0
  let c4096 : Index := 4096#32
  ![v179.toNat, 4096]
def k0_off11 (i : grid0.Coords) : Fin 2 → Nat :=
  let arg0 : BitVec 32 := BitVec.ofNat 32 (i 0).val
  let v320 : Index := Scalar.indexCast arg0
  let c8192 : Index := 8192#32
  ![v320.toNat, 8192]
def k0_off12 (i : grid0.Coords) : Fin 2 → Nat :=
  let arg0 : BitVec 32 := BitVec.ofNat 32 (i 0).val
  let v461 : Index := Scalar.indexCast arg0
  let c12288 : Index := 12288#32
  ![v461.toNat, 12288]
def k0_cond5 (i : grid0.Coords) : BitVec 1 :=
  let arg0 : BitVec 32 := BitVec.ofNat 32 (i 0).val
  let c4_i32_7 : BitVec 32 := 4#32
  let v17 : BitVec 1 := Scalar.cmpi .sgt arg0 c4_i32_7
  let c8_i32 : BitVec 32 := 8#32
  let v18 : BitVec 1 := Scalar.cmpi .sle arg0 c8_i32
  let v19 : BitVec 1 := Scalar.andi v17 v18
  let v20 : BitVec 32 := Scalar.extui v19
  let c0_i32_8 : BitVec 32 := 0#32
  let v21 : BitVec 1 := Scalar.cmpi .ne v20 c0_i32_8
  v21

def k0_off13 (i : grid0.Coords) : Fin 2 → Nat :=
  let arg0 : BitVec 32 := BitVec.ofNat 32 (i 0).val
  let v38 : Index := Scalar.indexCast arg0
  let c0_20 : Index := 0#32
  ![v38.toNat, 0]
def k0_off14 (i : grid0.Coords) : Fin 2 → Nat :=
  let arg0 : BitVec 32 := BitVec.ofNat 32 (i 0).val
  let v179 : Index := Scalar.indexCast arg0
  let c4096 : Index := 4096#32
  ![v179.toNat, 4096]
def k0_off15 (i : grid0.Coords) : Fin 2 → Nat :=
  let arg0 : BitVec 32 := BitVec.ofNat 32 (i 0).val
  let v320 : Index := Scalar.indexCast arg0
  let c8192 : Index := 8192#32
  ![v320.toNat, 8192]
def k0_off16 (i : grid0.Coords) : Fin 2 → Nat :=
  let arg0 : BitVec 32 := BitVec.ofNat 32 (i 0).val
  let v461 : Index := Scalar.indexCast arg0
  let c12288 : Index := 12288#32
  ![v461.toNat, 12288]
def k0_cond6 (i : grid0.Coords) : BitVec 1 :=
  let arg0 : BitVec 32 := BitVec.ofNat 32 (i 0).val
  let c8_i32_9 : BitVec 32 := 8#32
  let v22 : BitVec 1 := Scalar.cmpi .sgt arg0 c8_i32_9
  let v23 : BitVec 32 := Scalar.extui v22
  let c0_i32_10 : BitVec 32 := 0#32
  let v24 : BitVec 1 := Scalar.cmpi .ne v23 c0_i32_10
  v24

def k0_off17 (i : grid0.Coords) : Fin 2 → Nat :=
  let arg0 : BitVec 32 := BitVec.ofNat 32 (i 0).val
  let v38 : Index := Scalar.indexCast arg0
  let c0_20 : Index := 0#32
  ![v38.toNat, 0]
def k0_off18 (i : grid0.Coords) : Fin 2 → Nat :=
  let arg0 : BitVec 32 := BitVec.ofNat 32 (i 0).val
  let v179 : Index := Scalar.indexCast arg0
  let c4096 : Index := 4096#32
  ![v179.toNat, 4096]
def k0_off19 (i : grid0.Coords) : Fin 2 → Nat :=
  let arg0 : BitVec 32 := BitVec.ofNat 32 (i 0).val
  let v320 : Index := Scalar.indexCast arg0
  let c8192 : Index := 8192#32
  ![v320.toNat, 8192]
def k0_off20 (i : grid0.Coords) : Fin 2 → Nat :=
  let arg0 : BitVec 32 := BitVec.ofNat 32 (i 0).val
  let v461 : Index := Scalar.indexCast arg0
  let c12288 : Index := 12288#32
  ![v461.toNat, 12288]
def k0_cond7 (i : grid0.Coords) : BitVec 1 :=
  let arg0 : BitVec 32 := BitVec.ofNat 32 (i 0).val
  let c11_i32 : BitVec 32 := 11#32
  let v34 : BitVec 1 := Scalar.cmpi .eq arg0 c11_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1536_i32 : BitVec 32 := 1536#32
  let c0_i32 : BitVec 32 := 0#32
  let c0_i32_0 : BitVec 32 := 0#32
  ![c1536_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S128x512x3 : Shape := ⟨3, ![128, 512, 3]⟩
abbrev S128 : Shape := ⟨1, ![128]⟩
abbrev S29x32 : Shape := ⟨2, ![29, 32]⟩
abbrev S5x32 : Shape := ⟨2, ![5, 32]⟩
abbrev S4x32 : Shape := ⟨2, ![4, 32]⟩
abbrev S8x32 : Shape := ⟨2, ![8, 32]⟩
abbrev S49184x512 : Shape := ⟨2, ![49184, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S128x3x512 : Shape := ⟨3, ![128, 3, 512]⟩
abbrev S_ : Shape := ⟨0, ![]⟩
abbrev S128x1 : Shape := ⟨2, ![128, 1]⟩
abbrev S1x1 : Shape := ⟨2, ![1, 1]⟩
abbrev S128x32 : Shape := ⟨2, ![128, 32]⟩
abbrev S128x1x512 : Shape := ⟨3, ![128, 1, 512]⟩
abbrev S128x512 : Shape := ⟨2, ![128, 512]⟩
abbrev S128x512x1 : Shape := ⟨3, ![128, 512, 1]⟩
abbrev S1x1x1 : Shape := ⟨3, ![1, 1, 1]⟩
abbrev S128x512x32 : Shape := ⟨3, ![128, 512, 32]⟩
abbrev S128x1536x32 : Shape := ⟨3, ![128, 1536, 32]⟩
abbrev S128x49152 : Shape := ⟨2, ![128, 49152]⟩
abbrev S128x49184 : Shape := ⟨2, ![128, 49184]⟩
abbrev S1x512 : Shape := ⟨2, ![1, 512]⟩
abbrev S128x256 : Shape := ⟨2, ![128, 256]⟩
abbrev S1x256 : Shape := ⟨2, ![1, 256]⟩

abbrev nBuf : Space → Nat
  | .hbm => 141
  | .vmem => 0
  | .smem => 0
  | _ => 0

abbrev hbmTy0_0 (i : Nat) : BufTy := match i % 128 with
  | 0 => ⟨S128x512x3, .i32⟩
  | 1 => ⟨S128, .i32⟩
  | 2 => ⟨S29x32, .f32⟩
  | 3 => ⟨S5x32, .f32⟩
  | 4 => ⟨S4x32, .f32⟩
  | 5 => ⟨S8x32, .f32⟩
  | 6 => ⟨S49184x512, .f32⟩
  | 7 => ⟨S512, .f32⟩
  | 8 => ⟨S512x256, .f32⟩
  | 9 => ⟨S256, .f32⟩
  | 10 => ⟨S256x1, .f32⟩
  | 11 => ⟨S1, .f32⟩
  | 12 => ⟨S128x3x512, .i32⟩
  | 13 => ⟨S_, .i32⟩
  | 14 => ⟨S128, .i32⟩
  | 15 => ⟨S128, .i1⟩
  | 16 => ⟨S_, .i32⟩
  | 17 => ⟨S128, .i32⟩
  | 18 => ⟨S128, .i32⟩
  | 19 => ⟨S128, .i32⟩
  | 20 => ⟨S128x1, .i32⟩
  | 21 => ⟨S1, .i32⟩
  | 22 => ⟨S_, .i32⟩
  | 23 => ⟨S128x1, .i32⟩
  | 24 => ⟨S128x1, .i1⟩
  | 25 => ⟨S1x1, .i32⟩
  | 26 => ⟨S128x1, .i32⟩
  | 27 => ⟨S128x1, .i1⟩
  | 28 => ⟨S128x1, .i1⟩
  | 29 => ⟨S_, .i1⟩
  | 30 => ⟨S128, .i1⟩
  | 31 => ⟨S128x32, .f32⟩
  | 32 => ⟨S128x32, .i1⟩
  | 33 => ⟨S_, .f32⟩
  | 34 => ⟨S128x32, .f32⟩
  | 35 => ⟨S128x32, .f32⟩
  | 36 => ⟨S128x1x512, .i32⟩
  | 37 => ⟨S128x512, .i32⟩
  | 38 => ⟨S_, .i32⟩
  | 39 => ⟨S128x512, .i32⟩
  | 40 => ⟨S128x512, .i1⟩
  | 41 => ⟨S_, .i32⟩
  | 42 => ⟨S128x512, .i32⟩
  | 43 => ⟨S128x512, .i32⟩
  | 44 => ⟨S128x512, .i32⟩
  | 45 => ⟨S128x512x1, .i32⟩
  | 46 => ⟨S1, .i32⟩
  | 47 => ⟨S_, .i32⟩
  | 48 => ⟨S128x512x1, .i32⟩
  | 49 => ⟨S128x512x1, .i1⟩
  | 50 => ⟨S1x1x1, .i32⟩
  | 51 => ⟨S128x512x1, .i32⟩
  | 52 => ⟨S128x512x1, .i1⟩
  | 53 => ⟨S128x512x1, .i1⟩
  | 54 => ⟨S_, .i1⟩
  | 55 => ⟨S128x512, .i1⟩
  | 56 => ⟨S128x512x32, .f32⟩
  | 57 => ⟨S128x512x32, .i1⟩
  | 58 => ⟨S_, .f32⟩
  | 59 => ⟨S128x512x32, .f32⟩
  | 60 => ⟨S128x512x32, .f32⟩
  | 61 => ⟨S128x1x512, .i32⟩
  | 62 => ⟨S128x512, .i32⟩
  | 63 => ⟨S_, .i32⟩
  | 64 => ⟨S128x512, .i32⟩
  | 65 => ⟨S128x512, .i1⟩
  | 66 => ⟨S_, .i32⟩
  | 67 => ⟨S128x512, .i32⟩
  | 68 => ⟨S128x512, .i32⟩
  | 69 => ⟨S128x512, .i32⟩
  | 70 => ⟨S128x512x1, .i32⟩
  | 71 => ⟨S1, .i32⟩
  | 72 => ⟨S_, .i32⟩
  | 73 => ⟨S128x512x1, .i32⟩
  | 74 => ⟨S128x512x1, .i1⟩
  | 75 => ⟨S1x1x1, .i32⟩
  | 76 => ⟨S128x512x1, .i32⟩
  | 77 => ⟨S128x512x1, .i1⟩
  | 78 => ⟨S128x512x1, .i1⟩
  | 79 => ⟨S_, .i1⟩
  | 80 => ⟨S128x512, .i1⟩
  | 81 => ⟨S128x512x32, .f32⟩
  | 82 => ⟨S128x512x32, .i1⟩
  | 83 => ⟨S_, .f32⟩
  | 84 => ⟨S128x512x32, .f32⟩
  | 85 => ⟨S128x512x32, .f32⟩
  | 86 => ⟨S128x1x512, .i32⟩
  | 87 => ⟨S128x512, .i32⟩
  | 88 => ⟨S_, .i32⟩
  | 89 => ⟨S128x512, .i32⟩
  | 90 => ⟨S128x512, .i1⟩
  | 91 => ⟨S_, .i32⟩
  | 92 => ⟨S128x512, .i32⟩
  | 93 => ⟨S128x512, .i32⟩
  | 94 => ⟨S128x512, .i32⟩
  | 95 => ⟨S128x512x1, .i32⟩
  | 96 => ⟨S1, .i32⟩
  | 97 => ⟨S_, .i32⟩
  | 98 => ⟨S128x512x1, .i32⟩
  | 99 => ⟨S128x512x1, .i1⟩
  | 100 => ⟨S1x1x1, .i32⟩
  | 101 => ⟨S128x512x1, .i32⟩
  | 102 => ⟨S128x512x1, .i1⟩
  | 103 => ⟨S128x512x1, .i1⟩
  | 104 => ⟨S_, .i1⟩
  | 105 => ⟨S128x512, .i1⟩
  | 106 => ⟨S128x512x32, .f32⟩
  | 107 => ⟨S128x512x32, .i1⟩
  | 108 => ⟨S_, .f32⟩
  | 109 => ⟨S128x512x32, .f32⟩
  | 110 => ⟨S128x512x32, .f32⟩
  | 111 => ⟨S_, .i32⟩
  | 112 => ⟨S_, .f32⟩
  | 113 => ⟨S128x512x32, .f32⟩
  | 114 => ⟨S_, .i32⟩
  | 115 => ⟨S_, .f32⟩
  | 116 => ⟨S128x512x32, .f32⟩
  | 117 => ⟨S_, .i32⟩
  | 118 => ⟨S_, .f32⟩
  | 119 => ⟨S128x512x32, .f32⟩
  | 120 => ⟨S128x1536x32, .f32⟩
  | 121 => ⟨S128x49152, .f32⟩
  | 122 => ⟨S128x49184, .f32⟩
  | 123 => ⟨S128x512, .f32⟩
  | 124 => ⟨S1x512, .f32⟩
  | 125 => ⟨S128x512, .f32⟩
  | 126 => ⟨S128x512, .f32⟩
  | 127 => ⟨S_, .f32⟩
  | _ => ⟨S128x512x3, .i32⟩

abbrev hbmTy0_1 (i : Nat) : BufTy := match i % 128 with
  | 0 => ⟨S128x512, .f32⟩
  | 1 => ⟨S128x512, .f32⟩
  | 2 => ⟨S128x256, .f32⟩
  | 3 => ⟨S1x256, .f32⟩
  | 4 => ⟨S128x256, .f32⟩
  | 5 => ⟨S128x256, .f32⟩
  | 6 => ⟨S_, .f32⟩
  | 7 => ⟨S128x256, .f32⟩
  | 8 => ⟨S128x256, .f32⟩
  | 9 => ⟨S128x1, .f32⟩
  | 10 => ⟨S1x1, .f32⟩
  | 11 => ⟨S128x1, .f32⟩
  | 12 => ⟨S128x1, .f32⟩
  | _ => ⟨S128x512x3, .i32⟩

abbrev hbmTy (i : Nat) : BufTy := match i / 128 with
  | 0 => hbmTy0_0 i
  | 1 => hbmTy0_1 i
  | _ => ⟨S128x512x3, .i32⟩

abbrev bufTy : (tb : Table) → Fin (tcTables nBuf tb) → BufTy
  | .hbm, ⟨i, _⟩ => hbmTy i
  | _, _ => ⟨S128x512x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v7 : Ref sig .tc := ⟨.hbm, 85, rfl⟩
abbrev main_v8 : Ref sig .tc := ⟨.hbm, 86, rfl⟩
abbrev main_v9 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v10 : Ref sig .tc := ⟨.hbm, 110, rfl⟩
abbrev main_c : Ref sig .tc := ⟨.hbm, 111, rfl⟩
abbrev main_call4_v0 : Ref sig .tc := ⟨.hbm, 112, rfl⟩
abbrev main_v11 : Ref sig .tc := ⟨.hbm, 113, rfl⟩
abbrev main_c_0 : Ref sig .tc := ⟨.hbm, 114, rfl⟩
abbrev main_call5_v0 : Ref sig .tc := ⟨.hbm, 115, rfl⟩
abbrev main_v12 : Ref sig .tc := ⟨.hbm, 116, rfl⟩
abbrev main_c_1 : Ref sig .tc := ⟨.hbm, 117, rfl⟩
abbrev main_call6_v0 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_call7_cst : Ref sig .tc := ⟨.hbm, 127, rfl⟩
abbrev main_call7_v0 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_call8_cst : Ref sig .tc := ⟨.hbm, 134, rfl⟩
abbrev main_call8_v0 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩

abbrev nD : Nat := 1
abbrev τ : Topo := Topo.v7x

variable {F : FTy → Type} [FloatOps F]
-- ==== Proof.Rows.lean ====
/-
  Host operations on the rows of a table, read at one element, at any sizes: the scatter of `x.at[k : k + M].set(u)`
  and the gather of `jnp.take(x, ids, axis=0)` for ids laid out as a matrix.
-/
module

public import Idealize.ShloMosaic.Lib.Routing.OpsOne
public import Idealize.ShloMosaic.Lib.Routing.OpsSet
public import Idealize.ShloMosaic.Lib.Routing.OpsPair
public import Idealize.ShloMosaic.Lib.Routing.Ops
public import Idealize.ShloMosaic.Lib.Routing.Shapes

@[expose] public section

namespace Cert.Rows

open Idealize.ShloMosaic Idealize.ShloMosaic.ValueIdx Idealize.ShloMosaic.Routing

/-- Row `r'`, column `c'` of the update of `x.at[k : k + M].set(u)` lands at row `k + r'`, column `c'`. -/
theorem lands_rows {N C M : Nat} (d : ScatterDims (shape2 N C) (shape1 1) (shape2 M C)) (huw : d.updateWindowDims = [0, 1])
    (hiw : d.insertedWindowDims = []) (hsd : d.scatterDimsToOperandDims = [0]) (idx : IVec (shape1 1) 32) (k : Nat)
    (hidx : (idx (ix1 0)).toInt = (k : Int)) (r' : Fin M) (c' : Fin C) (r : Fin N) (c : Fin C) :
    d.resultIdx? (ix2 r' c') idx = some (ix2 r c) ↔ k + r'.val = r.val ∧ c'.val = c.val := by
  have hm : (0 : Fin 2) ∈ d.scatterDimsToOperandDims := by rw [hsd]; exact List.mem_singleton.2 rfl
  have hkept : d.sKept = [0, 1] := by
    show (shape2 N C).kept d.insertedWindowDims = _
    rw [hiw]
    rfl
  have hwin0 : d.window (ix2 r' c') 0 = r'.val := by
    unfold ScatterDims.window
    rw [dif_pos (by rw [hkept]; exact List.mem_cons_self)]
    obtain ⟨uw, iw, sd, iv, wf⟩ := d
    dsimp only at huw hiw
    subst huw hiw
    rfl
  have hwin1 : d.window (ix2 r' c') 1 = c'.val := by
    unfold ScatterDims.window
    rw [dif_pos (by rw [hkept]; exact List.mem_cons_of_mem _ (List.mem_singleton.2 rfl))]
    obtain ⟨uw, iw, sd, iv, wf⟩ := d
    dsimp only at huw hiw
    subst huw hiw
    rfl
  have hstart1 : d.start (ix2 r' c') idx 1 = 0 := by
    unfold ScatterDims.start
    rw [dif_neg fun h => by rw [hsd] at h; exact absurd (List.mem_singleton.1 h) (by decide : (1 : Fin 2) ≠ 0)]
  have hstart0 : d.start (ix2 r' c') idx 0 = (k : Int) := by
    unfold ScatterDims.start
    rw [dif_pos hm]
    have hsi : d.siIdx (ix2 r' c') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [resultIdx?_ix2, hstart0, hwin0, hstart1, hwin1]
  omega

/-- `x.at[k : k + M].set(u)` read at an element: rows `k` to `k + M - 1` are those of `u`, the others those of `x`. -/
theorem scatter_rows {α : Type} {N C M : Nat} (d : ScatterDims (shape2 N C) (shape1 1) (shape2 M C)) (huw : d.updateWindowDims = [0, 1])
    (hiw : d.insertedWindowDims = []) (hsd : d.scatterDimsToOperandDims = [0]) (x0 : (shape2 N C).Idx → α) (idx : IVec (shape1 1) 32)
    (upd : (shape2 M C).Idx → α) (k : Nat) (hidx : (idx (ix1 0)).toInt = (k : Int)) (r : Fin N) (c : Fin C) :
    Host.scatter d (fun _ b => b) x0 idx upd (ix2 r c)
      = if h : k ≤ r.val ∧ r.val - k < M then upd (ix2 ⟨r.val - k, h.2⟩ c) else x0 (ix2 r c) := by
  have lands : ∀ j : (shape2 M C).Idx, d.resultIdx? j idx = some (ix2 r c) → k + (j 0).val = r.val ∧ (j 1).val = c.val := fun j hj =>
    (lands_rows d huw hiw hsd idx k hidx (j 0) (j 1) r c).1 ((congrArg (fun t => d.resultIdx? t idx) (eq_ix2 j).symm).trans hj)
  by_cases h : k ≤ r.val ∧ r.val - k < M
  · rw [dif_pos h]
    refine scatter_set_hit d x0 idx upd _ _ (fun j hj => ?_) (ix2 ⟨r.val - k, h.2⟩ c)
      ((lands_rows d huw hiw hsd idx k hidx _ _ r c).2 ⟨Nat.add_sub_cancel' h.1, rfl⟩)
    have h0 : j 0 = (⟨r.val - k, h.2⟩ : Fin M) := Fin.ext (by have := (lands j hj).1; show (j 0).val = r.val - k; omega)
    have h1 : j 1 = c := Fin.ext (lands j hj).2
    exact congrArg upd ((eq_ix2 j).trans (congrArg₂ ix2 h0 h1))
  · rw [dif_neg h]
    refine scatter_set_miss d x0 idx upd _ fun j hj => h ?_
    have h0 := (lands j hj).1
    have h1 : (j 0).val < M := (j 0).isLt
    omega

/-- `table[ids]` over the rows of an `[N, C]` table for a matrix of ids: where `ids` holds at `(a, b)` a row number `k < N`,
    entry `(a, b, y)` of the result is the table's entry `(k, y)`. -/
theorem gather_rows {α : Type} {N C A B : Nat} (d : GatherDims (shape2 N C) (shape3 A B 1) (shape3 A B C)) (hoff : d.offsetDims = [2])
    (hcoll : d.collapsedSliceDims = [0]) (hob : d.operandBatchingDims = [])
    (hsim : d.startIndexMap = [0]) (hivd : d.indexVectorDim = 2) (x : (shape2 N C).Idx → α) (ids : IVec (shape3 A B 1) 32)
    (a : Fin A) (b : Fin B) (y : Fin C) (k : Fin N) (hk : (ids (ix3 a b (0 : Fin 1))).toInt = (k.val : Int)) :
    Host.gather d x ids (ix3 a b y) = x (ix2 k y) := by
  unfold Host.gather
  refine congrArg x (funext fun q => Fin.ext ?_)
  have hbN : ∀ a', a' ∉ d.operandBatchingDims := fun a' => by rw [hob]; exact List.not_mem_nil
  have hkept : d.sKept = [1] := by
    show ((shape2 N C).kept _) = _
    rw [hcoll, hob]
    rfl
  match q with
  | ⟨0, _⟩ =>
    have hk0 : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 a b y) ids 0 + d.batchCoord (ix3 a b y) 0 + d.offCoord (ix3 a b y) 0 = k.val
    rw [d.batchCoord_eq_zero _ _ (hbN 0), d.offCoord_eq_zero _ _ hk0]
    simp only [Nat.add_zero]
    unfold GatherDims.start
    rw [dif_pos hm]
    have hsi : d.siIdx (ix3 a b y) ⟨d.startIndexMap.idxOf 0, List.idxOf_lt_length_iff.2 hm⟩ = ix3 a b (0 : Fin 1) := by
      obtain ⟨od, cd, ob, sb, sm, iv, ss, wf⟩ := d
      dsimp only at hoff hcoll hob hsim hivd
      subst hoff hcoll hob hsim hivd
      funext b'
      match b' with
      | ⟨0, _⟩ => rfl
      | ⟨1, _⟩ => rfl
      | ⟨2, _⟩ => rfl
    rw [hsi, hk, hsl]
    have := k.isLt
    show min ((k.val : Int)).toNat (N - 1) = k.val
    omega
  | ⟨1, _⟩ =>
    have hk1 : (1 : Fin 2) ∈ d.sKept := by rw [hkept]; exact List.mem_singleton.2 rfl
    have hm : (1 : Fin 2) ∉ d.startIndexMap := by
      rw [hsim]
      exact fun h => absurd (List.mem_singleton.1 h) (by decide : (1 : Fin 2) ≠ 0)
    show d.start (ix3 a b y) ids 1 + d.batchCoord (ix3 a b y) 1 + d.offCoord (ix3 a b y) 1 = y.val
    rw [d.batchCoord_eq_zero _ _ (hbN 1), Nat.add_zero]
    unfold GatherDims.start GatherDims.offCoord
    rw [dif_neg hm, dif_pos hk1, Nat.zero_add]
    obtain ⟨od, cd, ob, sb, sm, iv, ss, wf⟩ := d
    dsimp only at hoff hcoll hob
    subst hoff hcoll hob
    rfl

end Cert.Rows
-- ==== Proof.Spec.lean ====
/-
  The mathematics that both programs compute: the ids of the 1537 positions of a sequence, the table that holds the
  four embedding tables one under another, the feature vector they give, and the perceptron over it.
-/
module

public import Idealize.ShloMosaic.PureOps
public import Idealize.ShloMosaic.Lib.ValueIdxCore
public import Idealize.ShloMosaic.Lib.Affine
public import proofs.«01_k».proof.Pre_ids_in_range
public import proofs.«01_k».proof.Proof.Gen.Pre_ids_in_range
public import Idealize.ShloMosaic.Lib.Pointwise

@[expose] public section

set_option maxRecDepth 16384

noncomputable section

namespace Cert.Spec

open Idealize.ShloMosaic Cert.Pre_ids_in_range

/-- The ids are in range: every rna id is 0 to 3 and every tissue id 0 to 28. -/
structure InRange (rna : IVec S128x512x3 32) (tis : IVec S128 32) : Prop where
  rna_lt : ∀ (b : Fin 128) (l : Fin 512) (f : Fin 3), (rna (ix3 b l f)).toNat < 4
  tis_lt : ∀ b : Fin 128, (tis (ix1 b)).toNat < 29

/-- The precondition says that the ids are in range. -/
theorem inRange_of_fn {F : FTy → Type} [FloatOps F] (rna : IVec S128x512x3 32) (tis : IVec S128 32) (a2 : FVec F S29x32 .f32) (a3 : FVec F S5x32 .f32)
    (a4 : FVec F S4x32 .f32) (a5 : FVec F S8x32 .f32) (a6 : FVec F S49184x512 .f32) (a7 : FVec F S512 .f32) (a8 : FVec F S512x256 .f32)
    (a9 : FVec F S256 .f32) (a10 : FVec F S256x1 .f32) (a11 : FVec F S1 .f32)
    (h : fn rna tis a2 a3 a4 a5 a6 a7 a8 a9 a10 a11 = fun _ => 1#1) : InRange rna tis := by
  have key : ∀ (b : Fin 128) (l : Fin 512) (f : Fin 3), (rna (ix3 b l f)).toNat < 4 ∧ (tis (ix1 b)).toNat < 29 := by
    intro b l f
    have h1 := congrFun h (ix3 b l f)
    dsimp only [fn] at h1
    pointwise at h1
    simp only [IntOp.andi_eq_one, IntOp.cmpi_sge, IntOp.cmpi_slt] at h1
    obtain ⟨⟨h2, h3⟩, h4, h5⟩ := h1
    have e0 : (0#32).toInt = 0 := rfl
    have e4 : (4#32).toInt = 4 := rfl
    have e29 : (29#32).toInt = 29 := rfl
    have t1 := BitVec.toInt_eq_toNat_cond (rna (ix3 b l f))
    have t2 := BitVec.toInt_eq_toNat_cond (tis (ix1 b))
    constructor
    · split at t1 <;> omega
    · split at t2 <;> omega
  exact ⟨fun b l f => (key b l f).1, fun b => (key b 0 0).2⟩

/-- The row of the merged table for position `p` of sequence `b`: the tissue first, then the 512 ids of each of the three rna features. -/
def gid (rna : IVec S128x512x3 32) (tis : IVec S128 32) (b : Fin 128) (p : Nat) : Nat :=
  if p = 0 then (tis (ix1 b)).toNat
  else if h : p - 1 < 512 then 29 + (rna (ix3 b ⟨p - 1, h⟩ 0)).toNat
  else if h : p - 513 < 512 then 34 + (rna (ix3 b ⟨p - 513, h⟩ 1)).toNat
  else if h : p - 1025 < 512 then 38 + (rna (ix3 b ⟨p - 1025, h⟩ 2)).toNat
  else 0

/-- The merged table: the four embedding tables one under another, from rows 0, 29, 34 and 38, then rows of zeros. -/
def tab (tt : S29x32.Idx → EReal) (st : S5x32.Idx → EReal) (et : S4x32.Idx → EReal) (lt : S8x32.Idx → EReal) (g : Nat) (d : Fin 32) : EReal :=
  if h : g < 29 then tt (ix2 ⟨g, h⟩ d)
  else if h : g - 29 < 5 then st (ix2 ⟨g - 29, h⟩ d)
  else if h : g - 34 < 4 then et (ix2 ⟨g - 34, h⟩ d)
  else if h : g - 38 < 8 then lt (ix2 ⟨g - 38, h⟩ d)
  else 0

section
variable (tt : S29x32.Idx → EReal) (st : S5x32.Idx → EReal) (et : S4x32.Idx → EReal) (lt : S8x32.Idx → EReal)

theorem tab_tissue (g : Nat) (h : g < 29) (d : Fin 32) : tab tt st et lt g d = tt (ix2 ⟨g, h⟩ d) := dif_pos h

theorem tab_seq (k : Nat) (h : k < 5) (d : Fin 32) : tab tt st et lt (29 + k) d = st (ix2 ⟨k, h⟩ d) := by
  unfold tab
  rw [dif_neg (by omega), dif_pos (by omega)]
  simp only [Nat.add_sub_cancel_left]

theorem tab_sec (k : Nat) (h : k < 4) (d : Fin 32) : tab tt st et lt (34 + k) d = et (ix2 ⟨k, h⟩ d) := by
  unfold tab
  rw [dif_neg (by omega), dif_neg (by omega), dif_pos (by omega)]
  simp only [Nat.add_sub_cancel_left]

theorem tab_loop (k : Nat) (h : k < 8) (d : Fin 32) : tab tt st et lt (38 + k) d = lt (ix2 ⟨k, h⟩ d) := by
  unfold tab
  rw [dif_neg (by omega), dif_neg (by omega), dif_neg (by omega), dif_pos (by omega)]
  simp only [Nat.add_sub_cancel_left]

variable (rna : IVec S128x512x3 32) (tis : IVec S128 32) (b : Fin 128)

theorem gid_tissue : gid rna tis b 0 = (tis (ix1 b)).toNat := if_pos rfl

theorem gid_seq (l : Fin 512) : gid rna tis b (1 + l.val) = 29 + (rna (ix3 b l 0)).toNat := by
  unfold gid
  rw [if_neg (by omega), dif_pos (by omega)]
  simp only [Nat.add_sub_cancel_left]

theorem gid_sec (l : Fin 512) : gid rna tis b (513 + l.val) = 34 + (rna (ix3 b l 1)).toNat := by
  unfold gid
  rw [if_neg (by omega), dif_neg (by omega), dif_pos (by omega)]
  simp only [Nat.add_sub_cancel_left]

theorem gid_loop (l : Fin 512) : gid rna tis b (1025 + l.val) = 38 + (rna (ix3 b l 2)).toNat := by
  unfold gid
  rw [if_neg (by omega), dif_neg (by omega), dif_neg (by omega), dif_pos (by omega)]
  simp only [Nat.add_sub_cancel_left]

end

/-- The feature vector of sequence `b`: entry `q` is column `q % 32` of the merged table's row for position `q / 32`. -/
def feature (rna : IVec S128x512x3 32) (tis : IVec S128 32) (tt : S29x32.Idx → EReal) (st : S5x32.Idx → EReal) (et : S4x32.Idx → EReal)
    (lt : S8x32.Idx → EReal) (b : Fin 128) (q : Nat) : EReal :=
  tab tt st et lt (gid rna tis b (q / 32)) ⟨q % 32, Nat.mod_lt _ (by decide)⟩

section
variable (rna : IVec S128x512x3 32) (tis : IVec S128 32) (tt : S29x32.Idx → EReal) (st : S5x32.Idx → EReal) (et : S4x32.Idx → EReal) (lt : S8x32.Idx → EReal)

/-- The feature at column `d` of position `p`. -/
theorem feature_at (b : Fin 128) (p : Nat) (d : Fin 32) : feature rna tis tt st et lt b (32 * p + d.val) = tab tt st et lt (gid rna tis b p) d := by
  have hd := d.isLt
  have e0 : (32 * p + d.val) / 32 = p := by omega
  have e1 : (32 * p + d.val) % 32 = d.val := by omega
  unfold feature
  simp only [e0, e1]

variable (hr : InRange rna tis) (b : Fin 128) (l : Fin 512) (d : Fin 32)
include hr

theorem feature_tissue : feature rna tis tt st et lt b d.val = tt (ix2 ⟨(tis (ix1 b)).toNat, hr.tis_lt b⟩ d) := by
  have h := feature_at rna tis tt st et lt b 0 d
  rw [Nat.mul_zero, Nat.zero_add] at h
  rw [h, gid_tissue, tab_tissue _ _ _ _ _ (hr.tis_lt b)]

theorem feature_seq : feature rna tis tt st et lt b (32 * (1 + l.val) + d.val) = st (ix2 ⟨(rna (ix3 b l 0)).toNat, Nat.lt_succ_of_lt (hr.rna_lt b l 0)⟩ d) := by
  rw [feature_at, gid_seq, tab_seq _ _ _ _ _ (Nat.lt_succ_of_lt (hr.rna_lt b l 0))]

theorem feature_sec : feature rna tis tt st et lt b (32 * (513 + l.val) + d.val) = et (ix2 ⟨(rna (ix3 b l 1)).toNat, hr.rna_lt b l 1⟩ d) := by
  rw [feature_at, gid_sec, tab_sec _ _ _ _ _ (hr.rna_lt b l 1)]

theorem feature_loop : feature rna tis tt st et lt b (32 * (1025 + l.val) + d.val)
    = lt (ix2 ⟨(rna (ix3 b l 2)).toNat, lt_trans (hr.rna_lt b l 2) (by decide)⟩ d) := by
  rw [feature_at, gid_loop, tab_loop _ _ _ _ _ (lt_trans (hr.rna_lt b l 2) (by decide))]

end

/-- The rest of the perceptron, for one sequence with first-layer products `s`. -/
def net (s : Fin 512 → EReal) (b1 : S512.Idx → EReal) (w2 : S512x256.Idx → EReal) (b2 : S256.Idx → EReal) (w3 : S256x1.Idx → EReal) (b3 : S1.Idx → EReal) : EReal :=
  ∑ k : Fin 256, max (∑ h : Fin 512, max (s h + b1 (ix1 h)) 0 * w2 (ix2 h k) + b2 (ix1 k)) 0 * w3 (ix2 k 0) + b3 (ix1 0)

end Cert.Spec

end
-- ==== Proof.Ref.lean ====
/-
  The reference's feature matrix: entry `(b, q)` is the merged table's row for position `q / 32` at column `q % 32`.
-/
module

public import proofs.«01_k».proof.Proof.Gen.ReferenceIdeal.Run
public import proofs.«01_k».proof.Proof.Rows
public import proofs.«01_k».proof.Proof.Spec
public import Idealize.ShloMosaic.Lib.Pointwise
public import Idealize.ShloMosaic.Lib.ReduceAll

@[expose] public section

set_option maxRecDepth 16384

noncomputable section

namespace Cert.Ref

open Cert.ReferenceIdeal Cert.ReferenceIdeal.Gen Idealize.ShloMosaic Idealize.ShloMosaic.TcCoe
open Cert.Spec

/-- The ids as `jnp.take` prints them: a negative one counts from the end of the `N` rows. -/
def idsM (N : BitVec 32) (w : IVec S128x512 32) : IVec S128x512x1 32 :=
  broadcastInDim S128x512x1 ![0, 1] bcast_S128x512_S128x512x1_0_1
    (select (cmpi .slt w (broadcastInDim S128x512 ![] bcast_S_S128x512 (constantI S_ 32 0#32)))
      (addi w (broadcastInDim S128x512 ![] bcast_S_S128x512 (constantI S_ 32 N))) w)

/-- `jnp.take(table, ids, axis=0)` at a matrix of ids, as it prints: the row for each id, not-a-number where the id is out of range. -/
def takeM {s : Shape} (d : GatherDims s S128x512x1 S128x512x32) (N N1 : BitVec 32) (x : FVec Ideal s .f32) (w : IVec S128x512 32) : FVec Ideal S128x512x32 .f32 :=
  select (broadcastInDim S128x512x32 ![0, 1] bcast_S128x512_S128x512x32_0_1
      (Host.reduce IntOp.andi
        (andi (cmpi .sge (idsM N w) (broadcastInDim S128x512x1 ![] bcast_S_S128x512x1 (constantI S_ 32 0#32)))
          (cmpi .sle (idsM N w) (broadcastInDim S128x512x1 ![0, 1, 2] bcast_S1x1x1_S128x512x1_0_1_2 (broadcastInDim S1x1x1 ![2] bcast_S1_S1x1x1_2 (constantI S1 32 N1)))))
        (constantI S_ 1 1#1) reducesTo_S128x512x1_S128x512_d2 h_S_))
    (Host.gather d x (idsM N w))
    (broadcastInDim S128x512x32 ![] bcast_S_S128x512x32 (constant S_ .f32 0x7FC00000#32))

/-- The same for the vector of tissue ids. -/
def idsV (w : IVec S128 32) : IVec S128x1 32 :=
  broadcastInDim S128x1 ![0] bcast_S128_S128x1_0
    (select (cmpi .slt w (broadcastInDim S128 ![] bcast_S_S128 (constantI S_ 32 0#32)))
      (addi w (broadcastInDim S128 ![] bcast_S_S128 (constantI S_ 32 29#32))) w)

/-- `jnp.take(tissue_table, tissue_id, axis=0)` as it prints. -/
def takeV (x : FVec Ideal S29x32 .f32) (w : IVec S128 32) : FVec Ideal S128x32 .f32 :=
  select (broadcastInDim S128x32 ![0] bcast_S128_S128x32_0
      (Host.reduce IntOp.andi
        (andi (cmpi .sge (idsV w) (broadcastInDim S128x1 ![] bcast_S_S128x1 (constantI S_ 32 0#32)))
          (cmpi .sle (idsV w) (broadcastInDim S128x1 ![0, 1] bcast_S1x1_S128x1_0_1 (broadcastInDim S1x1 ![1] bcast_S1_S1x1_1 (constantI S1 32 28#32)))))
        (constantI S_ 1 1#1) reducesTo_S128x1_S128_d1 h_S_))
    (Host.gather gather_S29x32_S128x1_S128x32_1_0_n_n_0_1_132 x (idsV w))
    (broadcastInDim S128x32 ![] bcast_S_S128x32 (constant S_ .f32 0x7FC00000#32))

/-- Feature `f` of the rna ids as a matrix. -/
def col0 (rna : IVec S128x512x3 32) : IVec S128x512 32 :=
  shapeCast _ (extractStridedSlice S128x1x512 ![0, 0, 0] (transpose S128x3x512 [0, 2, 1] rna transposes_S128x512x3_S128x3x512_0_2_1) slices_S128x3x512_S128x1x512_0_0_0) shapeCasts_S128x1x512_S128x512
@[inherit_doc col0]
def col1 (rna : IVec S128x512x3 32) : IVec S128x512 32 :=
  shapeCast _ (extractStridedSlice S128x1x512 ![0, 1, 0] (transpose S128x3x512 [0, 2, 1] rna transposes_S128x512x3_S128x3x512_0_2_1) slices_S128x3x512_S128x1x512_0_1_0) shapeCasts_S128x1x512_S128x512
@[inherit_doc col0]
def col2 (rna : IVec S128x512x3 32) : IVec S128x512 32 :=
  shapeCast _ (extractStridedSlice S128x1x512 ![0, 2, 0] (transpose S128x3x512 [0, 2, 1] rna transposes_S128x512x3_S128x3x512_0_2_1) slices_S128x3x512_S128x1x512_0_2_0) shapeCasts_S128x1x512_S128x512

/-- `jnp.pad` by nothing. -/
def padM (x : FVec Ideal S128x512x32 .f32) : FVec Ideal S128x512x32 .f32 :=
  pad S128x512x32 ![0, 0, 0] ![0, 0, 0] ![0, 0, 0] x (sitofp .f32 (constantI S_ 32 0#32)) pads_S128x512x32_S128x512x32_000_000_000 h_S_

/-- The reference's feature matrix. -/
def feat (rna : IVec S128x512x3 32) (tis : IVec S128 32) (tt : FVec Ideal S29x32 .f32) (st : FVec Ideal S5x32 .f32) (et : FVec Ideal S4x32 .f32)
    (lt : FVec Ideal S8x32 .f32) : FVec Ideal S128x49184 .f32 :=
  concatenate S128x49184 1 [⟨S128x32, takeV tt tis⟩,
    ⟨S128x49152, shapeCast _ (concatenate S128x1536x32 1
      [⟨S128x512x32, padM (takeM gather_S5x32_S128x512x1_S128x512x32_2_0_n_n_0_2_132 5#32 4#32 st (col0 rna))⟩,
       ⟨S128x512x32, padM (takeM gather_S4x32_S128x512x1_S128x512x32_2_0_n_n_0_2_132 4#32 3#32 et (col1 rna))⟩,
       ⟨S128x512x32, padM (takeM gather_S8x32_S128x512x1_S128x512x32_2_0_n_n_0_2_132 8#32 7#32 lt (col2 rna))⟩]
      concatenates_S128x512x32_S128x512x32_S128x512x32_S128x1536x32_d1) shapeCasts_S128x1536x32_S128x49152⟩] concatenates_S128x32_S128x49152_S128x49184_d1

/-- The reference's perceptron over a feature matrix. -/
def mlp (x : FVec Ideal S128x49184 .f32) (w1 : FVec Ideal S49184x512 .f32) (b1 : FVec Ideal S512 .f32) (w2 : FVec Ideal S512x256 .f32) (b2 : FVec Ideal S256 .f32)
    (w3 : FVec Ideal S256x1 .f32) (b3 : FVec Ideal S1 .f32) : FVec Ideal S128x1 .f32 :=
  addf (Host.dotGeneral dot_S128x256_S256x1_S128x1_1_0_0_1_n_n none
    (maximumf (addf (Host.dotGeneral dot_S128x512_S512x256_S128x256_1_0_0_1_n_n none
      (maximumf (addf (Host.dotGeneral dot_S128x49184_S49184x512_S128x512_1_0_0_1_n_n none x w1)
        (broadcastInDim S128x512 ![0, 1] bcast_S1x512_S128x512_0_1 (broadcastInDim S1x512 ![1] bcast_S512_S1x512_1 b1)))
        (broadcastInDim S128x512 ![] bcast_S_S128x512 (constant S_ .f32 0x00000000#32))) w2)
      (broadcastInDim S128x256 ![0, 1] bcast_S1x256_S128x256_0_1 (broadcastInDim S1x256 ![1] bcast_S256_S1x256_1 b2)))
      (broadcastInDim S128x256 ![] bcast_S_S128x256 (constant S_ .f32 0x00000000#32))) w3)
    (broadcastInDim S128x1 ![0, 1] bcast_S1x1_S128x1_0_1 (broadcastInDim S1x1 ![1] bcast_S1_S1x1_1 b3))

set_option maxHeartbeats 2000000 in
/-- The reference's result is the perceptron over the feature matrix. -/
theorem res_eq (m : (ℓ : Loc nD τ sig) → Buf (Elt Ideal) ℓ) (c : Dev nD) : Value.res_main_v30 m c
    = mlp (feat (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold Value.res_main_v30 mlp feat padM col0 col1 col2 takeV takeM idsM idsV
  rfl

/-- The perceptron read at a sequence. -/
theorem mlp_apply (x : FVec Ideal S128x49184 .f32) (w1 : FVec Ideal S49184x512 .f32) (b1 : FVec Ideal S512 .f32) (w2 : FVec Ideal S512x256 .f32) (b2 : FVec Ideal S256 .f32)
    (w3 : FVec Ideal S256x1 .f32) (b3 : FVec Ideal S1 .f32) (b : Fin 128) (z : Fin 1) :
    mlp x w1 b1 w2 b2 w3 b3 (ix2 b z) = net (fun h => ∑ q : Fin 49184, x (ix2 b q) * w1 (ix2 q h)) b1 w2 b2 w3 b3 := by
  obtain rfl : z = 0 := Subsingleton.elim _ _
  pointwise [mlp]
  rfl

/-- A word that is not negative counts from the start of the rows. -/
theorem wrap {N w : BitVec 32} (hw : w.toNat < 2 ^ 31) : Scalar.select (IntOp.cmpi CmpIPredicate.slt w 0#32) (IntOp.addi w N) w = w :=
  Routing.wrap_of_lt w _ hw

/-- A word from 0 to `N1` passes the range test. -/
theorem inRange_eq_one {N1 w : BitVec 32} (hN : N1.toNat < 2 ^ 31) (hw : w.toNat ≤ N1.toNat) :
    IntOp.andi (IntOp.andi (IntOp.cmpi CmpIPredicate.sge w 0#32) (IntOp.cmpi CmpIPredicate.sle w N1)) 1#1 = 1#1 := by
  have e0 : (0#32).toInt = 0 := rfl
  rw [IntOp.andi_eq_one, IntOp.andi_eq_one, IntOp.cmpi_sge, IntOp.cmpi_sle, e0, BitVec.toInt_eq_toNat_cond w, BitVec.toInt_eq_toNat_cond N1]
  refine ⟨⟨?_, ?_⟩, rfl⟩ <;> split <;> (try split) <;> omega

/-- `jnp.take` at a matrix of ids in range is the table's row. -/
theorem takeM_apply {n : Nat} (d : GatherDims ⟨2, ![n, 32]⟩ S128x512x1 S128x512x32) (hoff : d.offsetDims = [2])
    (hcoll : d.collapsedSliceDims = [0]) (hob : d.operandBatchingDims = [])
    (hsim : d.startIndexMap = [0]) (hivd : d.indexVectorDim = 2) (N N1 : BitVec 32) (hN : N1.toNat < 2 ^ 31) (x : FVec Ideal ⟨2, ![n, 32]⟩ .f32) (w : IVec S128x512 32)
    (hn : N1.toNat < n) (b : Fin 128) (l : Fin 512) (hw : (w (ix2 b l)).toNat ≤ N1.toNat) (y : Fin 32) :
    takeM d N N1 x w (ix3 b l y) = x (ix2 ⟨(w (ix2 b l)).toNat, lt_of_le_of_lt hw hn⟩ y) := by
  have hids : ∀ z : Fin 1, idsM N w (ix3 b l z) = w (ix2 b l) := fun z => by
    pointwise [idsM]
    exact wrap (by omega)
  have hg : Host.gather d x (idsM N w) (ix3 b l y) = x (ix2 ⟨(w (ix2 b l)).toNat, lt_of_le_of_lt hw hn⟩ y) := by
    rw [ix3_eq_valueIdx, ix2_eq_valueIdx]
    refine Rows.gather_rows d hoff hcoll hob hsim hivd x (idsM N w) b l y _ ?_
    rw [← ix3_eq_valueIdx, hids, BitVec.toInt_eq_toNat_cond, if_pos (by omega)]
  unfold takeM
  pointwise
  simp only [hids, Finset.univ_unique, Finset.fold_singleton, inRange_eq_one hN hw, hg]
  rfl

/-- `jnp.take` at a tissue id in range is the table's row. -/
theorem takeV_apply (x : FVec Ideal S29x32 .f32) (w : IVec S128 32) (b : Fin 128) (hw : (w (ix1 b)).toNat < 29) (y : Fin 32) :
    takeV x w (ix2 b y) = x (ix2 ⟨(w (ix1 b)).toNat, hw⟩ y) := by
  have hids : ∀ z : Fin 1, idsV w (ix2 b z) = w (ix1 b) := fun z => by
    pointwise [idsV]
    exact wrap (by omega)
  have hg : Host.gather gather_S29x32_S128x1_S128x32_1_0_n_n_0_1_132 x (idsV w) (ix2 b y) = x (ix2 ⟨(w (ix1 b)).toNat, hw⟩ y) := by
    rw [ix2_eq_valueIdx, ix2_eq_valueIdx]
    refine Routing.gather_row _ rfl rfl rfl rfl rfl x (idsV w) b y _ ?_ (by decide)
    rw [← ix2_eq_valueIdx, hids]
    exact BitVec.eq_of_toNat_eq (by rw [BitVec.toNat_ofNat]; show _ = (w (ix1 b)).toNat % _; omega)
  unfold takeV
  pointwise
  simp only [hids, Finset.univ_unique, Finset.fold_singleton, hg, inRange_eq_one (N1 := 28#32) (by decide) (show (w (ix1 b)).toNat ≤ 28 by omega)]
  rfl

theorem col0_apply (rna : IVec S128x512x3 32) (b : Fin 128) (l : Fin 512) : col0 rna (ix2 b l) = rna (ix3 b l 0) := by pointwise [col0]
theorem col1_apply (rna : IVec S128x512x3 32) (b : Fin 128) (l : Fin 512) : col1 rna (ix2 b l) = rna (ix3 b l 1) := by pointwise [col1]
theorem col2_apply (rna : IVec S128x512x3 32) (b : Fin 128) (l : Fin 512) : col2 rna (ix2 b l) = rna (ix3 b l 2) := by pointwise [col2]

/-- The feature matrix at an entry. -/
theorem feat_apply (rna : IVec S128x512x3 32) (tis : IVec S128 32) (tt : FVec Ideal S29x32 .f32) (st : FVec Ideal S5x32 .f32) (et : FVec Ideal S4x32 .f32)
    (lt : FVec Ideal S8x32 .f32) (hr : InRange rna tis) (b : Fin 128) (q : Fin 49184) :
    feat rna tis tt st et lt (ix2 b q) = feature rna tis tt st et lt b q.val := by
  have hq := q.isLt
  have hm : (q.val - 32) % 32 < 32 := Nat.mod_lt _ (by decide)
  unfold feat
  pointwise [padM]
  by_cases h0 : q.val < 32
  · rw [dif_pos h0, takeV_apply tt tis b (hr.tis_lt b)]
    exact (feature_tissue rna tis tt st et lt hr b ⟨q.val, h0⟩).symm
  · rw [dif_neg h0]
    by_cases h1 : (q.val - 32) / 32 < 512
    · have hw := hr.rna_lt b ⟨(q.val - 32) / 32, h1⟩ 0
      rw [dif_pos h1, dif_pos ⟨h1, hm⟩]
      refine (takeM_apply _ rfl rfl rfl rfl rfl 5#32 4#32 (by decide) st (col0 rna) (by decide) b _ (by rw [col0_apply]; exact Nat.le_of_lt hw) _).trans ?_
      simp only [col0_apply]
      refine (feature_seq rna tis tt st et lt hr b ⟨(q.val - 32) / 32, h1⟩ ⟨(q.val - 32) % 32, hm⟩).symm.trans (congrArg _ ?_)
      show 32 * (1 + (q.val - 32) / 32) + (q.val - 32) % 32 = q.val
      omega
    · rw [dif_neg h1]
      by_cases h2 : (q.val - 32) / 32 - 512 < 512
      · have hw := hr.rna_lt b ⟨(q.val - 32) / 32 - 512, h2⟩ 1
        rw [dif_pos h2, dif_pos ⟨h2, hm⟩]
        refine (takeM_apply _ rfl rfl rfl rfl rfl 4#32 3#32 (by decide) et (col1 rna) (by decide) b _ (by rw [col1_apply]; exact Nat.le_of_lt_succ hw) _).trans ?_
        simp only [col1_apply]
        refine (feature_sec rna tis tt st et lt hr b ⟨(q.val - 32) / 32 - 512, h2⟩ ⟨(q.val - 32) % 32, hm⟩).symm.trans (congrArg _ ?_)
        show 32 * (513 + ((q.val - 32) / 32 - 512)) + (q.val - 32) % 32 = q.val
        omega
      · have h3 : (q.val - 32) / 32 - 512 - 512 < 512 := by omega
        have hw := hr.rna_lt b ⟨(q.val - 32) / 32 - 512 - 512, h3⟩ 2
        rw [dif_neg h2, dif_pos ⟨h3, hm⟩]
        refine (takeM_apply _ rfl rfl rfl rfl rfl 8#32 7#32 (by decide) lt (col2 rna) (by decide) b _ (by rw [col2_apply]; exact (lt_trans hw (by decide)).le) _).trans ?_
        simp only [col2_apply]
        refine (feature_loop rna tis tt st et lt hr b ⟨(q.val - 32) / 32 - 512 - 512, h3⟩ ⟨(q.val - 32) % 32, hm⟩).symm.trans (congrArg _ ?_)
        show 32 * (1025 + ((q.val - 32) / 32 - 512 - 512)) + (q.val - 32) % 32 = q.val
        omega

/-- The reference's result at a sequence. -/
theorem res_apply (m : (ℓ : Loc nD τ sig) → Buf (Elt Ideal) ℓ) (c : Dev nD)
    (hr : InRange (m ((c.tc : Thread nD τ).loc main_arg0)) (m ((c.tc : Thread nD τ).loc main_arg1))) (b : Fin 128) (z : Fin 1) :
    Value.res_main_v30 m c (ix2 b z)
      = net (fun h => ∑ q : Fin 49184, feature (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) b q.val
            * (m ((c.tc : Thread nD τ).loc main_arg6) : S49184x512.Idx → EReal) (ix2 q h))
          (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [res_eq]
  refine (mlp_apply _ _ _ _ _ _ _ b z).trans ?_
  exact congrArg (fun s => net s _ _ _ _ _) (funext fun h => Finset.sum_congr rfl fun q _ => congrArg (· * _) (feat_apply _ _ _ _ _ _ hr b q))

end Cert.Ref

end
-- ==== Proof.Host.lean ====
/-
  What the host operations before the kernel leave in its operands: the merged table transposed, and the table rows
  of the positions, 128 positions to a row of the first operand, the last position in the second.
-/
module

public import proofs.«01_k».proof.Proof.Gen.KernelIdeal.Frame.Runs
public import proofs.«01_k».proof.Proof.Rows
public import proofs.«01_k».proof.Proof.Spec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Host

open Cert.KernelIdeal Cert.KernelIdeal.Gen Idealize.ShloMosaic Idealize.ShloMosaic.TcCoe Idealize.SL.Sem
open Cert.Spec

variable (m : (ℓ : Loc nD τ sig) → Buf (Elt Ideal) ℓ) (c : Dev nD)

/-- The rna ids. -/
abbrev rna : S128x512x3.Idx → BitVec 32 := m ((c.tc : Thread nD τ).loc main_arg0)
/-- The tissue ids. -/
abbrev tis : S128.Idx → BitVec 32 := m ((c.tc : Thread nD τ).loc main_arg1)
/-- The tissue table. -/
abbrev ttab : S29x32.Idx → EReal := m ((c.tc : Thread nD τ).loc main_arg2)
/-- The sequence table. -/
abbrev stab : S5x32.Idx → EReal := m ((c.tc : Thread nD τ).loc main_arg3)
/-- The secondary-structure table. -/
abbrev etab : S4x32.Idx → EReal := m ((c.tc : Thread nD τ).loc main_arg4)
/-- The loop table. -/
abbrev ltab : S8x32.Idx → EReal := m ((c.tc : Thread nD τ).loc main_arg5)
/-- The table row of position `p` of sequence `b`. -/
abbrev row (b : Fin 128) (p : Nat) : Nat := gid (rna m c) (tis m c) b p
/-- The merged table at row `g`, column `d`. -/
abbrev table (g : Nat) (d : Fin 32) : EReal := tab (ttab m c) (stab m c) (etab m c) (ltab m c) g d

/-- The kernel's table operand is the merged table, transposed. -/
theorem table_apply (d : Fin 32) (g : Fin 64) : (V m c main_v9 : S32x64.Idx → EReal) (ix2 d g) = table m c g.val d := by
  have hg := g.isLt
  unfold V
  after_reads_at
  rw [ix2_eq_valueIdx, Rows.scatter_rows _ rfl rfl rfl _ _ _ 38 (by pointwise; rfl), Rows.scatter_rows _ rfl rfl rfl _ _ _ 34 (by pointwise; rfl),
    Rows.scatter_rows _ rfl rfl rfl _ _ _ 29 (by pointwise; rfl), Rows.scatter_rows _ rfl rfl rfl _ _ _ 0 (by pointwise; rfl)]
  pointwise
  unfold table tab
  split_ifs <;> first | omega | (rw [← ix2_eq_valueIdx]; done) | (rw [← ix2_eq_valueIdx]; rfl) | rfl

theorem bias1_apply (z : Fin 1) (h : Fin 512) : (V m c main_v30 : S1x512.Idx → EReal) (ix2 z h) = (m ((c.tc : Thread nD τ).loc main_arg7) : S512.Idx → EReal) (ix1 h) := by
  unfold V
  after_reads_at

theorem bias2_apply (z : Fin 1) (h : Fin 256) : (V m c main_v31 : S1x256.Idx → EReal) (ix2 z h) = (m ((c.tc : Thread nD τ).loc main_arg9) : S256.Idx → EReal) (ix1 h) := by
  unfold V
  after_reads_at

theorem bias3_apply (z h : Fin 1) : (V m c main_v32 : S1x1.Idx → EReal) (ix2 z h) = (m ((c.tc : Thread nD τ).loc main_arg11) : S1.Idx → EReal) (ix1 0) := by
  unfold V
  after_reads_at

/-- A word plus a small constant, as the word of the sum of its value. -/
theorem word_add (k : Nat) (w : BitVec 32) : IntOp.addi w (BitVec.ofNat 32 k) = BitVec.ofNat 32 (k + w.toNat) := by
  rw [BitVec.ofNat_add, BitVec.ofNat_toNat, BitVec.setWidth_eq, BitVec.add_comm]
  rfl

/-- The first operand holds the table rows of 128 positions to a row, position by position. -/
theorem ids_apply (t : Fin 12) (z : Fin 16384) : (V m c main_v28 : S12x16384.Idx → BitVec 32) (ix2 t z)
    = BitVec.ofNat 32 (row m c ⟨z.val % 128, Nat.mod_lt _ (by decide)⟩ (t.val * 128 + z.val / 128)) := by
  have ht := t.isLt
  have hz := z.isLt
  unfold V
  after_reads_at
  split
  · after_reads_at
    have e : 0 = t.val * 128 + z.val / 128 := by omega
    refine Eq.trans ?_ (congrArg (BitVec.ofNat 32) ((gid_tissue _ _ _).symm.trans (congrArg _ e)))
    exact ((BitVec.ofNat_toNat _ _).trans (BitVec.setWidth_eq _)).symm
  · split
    · next h =>
      after_reads_at
      refine (word_add 29 _).trans (congrArg (BitVec.ofNat 32) ((gid_seq _ _ _ ⟨_, h⟩).symm.trans (congrArg _ ?_)))
      show 1 + (t.val * 128 + z.val / 128 - 1) = _
      omega
    · split
      · next h =>
        after_reads_at
        refine (word_add 34 _).trans (congrArg (BitVec.ofNat 32) ((gid_sec _ _ _ ⟨_, h⟩).symm.trans (congrArg _ ?_)))
        show 513 + (t.val * 128 + z.val / 128 - 1 - 512) = _
        omega
      · after_reads_at
        refine (word_add 38 _).trans (congrArg (BitVec.ofNat 32) ((gid_loop _ _ _ ⟨t.val * 128 + z.val / 128 - 1 - 512 - 512, by omega⟩).symm.trans (congrArg _ ?_)))
        show 1025 + (t.val * 128 + z.val / 128 - 1 - 512 - 512) = _
        omega

/-- The second operand holds the table rows of the last position. -/
theorem tail_apply (z : Fin 1) (b : Fin 128) : (V m c main_v29 : S1x128.Idx → BitVec 32) (ix2 z b) = BitVec.ofNat 32 (row m c b 1536) := by
  unfold V
  after_reads_at
  after_reads_at
  exact (word_add 38 _).trans (congrArg (BitVec.ofNat 32) (gid_loop _ _ _ 511).symm)

end Cert.KernelIdeal.Host

end
-- ==== Proof.Blocks.lean ====
/-
  What the windows bring into the kernel at a grid point: each input block as a read of the argument, or of the
  operand that the host operations computed, at the block's place.
-/
module

public import proofs.«01_k».proof.Proof.Gen.KernelIdeal.Frame.Runs
public import Idealize.ShloMosaic.Lib.Pipeline.ValueKit
public import Idealize.ShloMosaic.Lib.Pointwise

@[expose] public section

set_option maxRecDepth 16384

noncomputable section

namespace Cert.KernelIdeal.Blocks

open Idealize.ShloMosaic Idealize.ShloMosaic.TcCoe Idealize.SL.RA Cert.KernelIdeal Cert.KernelIdeal.Gen

theorem idx : ∀ t : Fin cfg0.N, win0_0.index t = ![0, 0] ∧ win0_1.index t = ![0, 0] ∧ win0_2.index t = ![0, 0] ∧ win0_3.index t = ![t.val, 0]
    ∧ win0_4.index t = ![1536, 0] ∧ win0_5.index t = ![0, 0] ∧ win0_6.index t = ![0, 0] ∧ win0_7.index t = ![0, 0] ∧ win0_8.index t = ![0, 0]
    ∧ win0_9.index t = ![0, 0] := by decide +kernel

variable (m : (ℓ : Loc nD τ sig) → Buf (Elt Ideal) ℓ) (c : Dev nD) (t : Fin cfg0.N)

theorem ids (i : Fin 12) (z : Fin 16384) : (iblk m c 0 t : Vec Ideal S12x16384 .i32) (ix2 i z) = (V m c main_v28 : Vec Ideal S12x16384 .i32) (ix2 i z) := by
  blk_ext [iblk, idx t]
theorem tail (i : Fin 1) (z : Fin 128) : (iblk m c 1 t : Vec Ideal S1x128 .i32) (ix2 i z) = (V m c main_v29 : Vec Ideal S1x128 .i32) (ix2 i z) := by
  blk_ext [iblk, idx t]
theorem tab (d : Fin 32) (g : Fin 64) : (iblk m c 2 t : S32x64.Idx → EReal) (ix2 d g) = (V m c main_v9 : S32x64.Idx → EReal) (ix2 d g) := by
  blk_ext [iblk, idx t]
theorem bias1 (i : Fin 1) (h : Fin 512) : (iblk m c 5 t : S1x512.Idx → EReal) (ix2 i h) = (V m c main_v30 : S1x512.Idx → EReal) (ix2 i h) := by
  blk_ext [iblk, idx t]
theorem bias2 (i : Fin 1) (k : Fin 256) : (iblk m c 7 t : S1x256.Idx → EReal) (ix2 i k) = (V m c main_v31 : S1x256.Idx → EReal) (ix2 i k) := by
  blk_ext [iblk, idx t]
theorem bias3 (i : Fin 1) (k : Fin 1) : (iblk m c 9 t : S1x1.Idx → EReal) (ix2 i k) = (V m c main_v32 : S1x1.Idx → EReal) (ix2 i k) := by
  blk_ext [iblk, idx t]

theorem weight2 (h : Fin 512) (k : Fin 256) :
    (iblk m c 6 t : S512x256.Idx → EReal) (ix2 h k) = (m ((c.tc : Thread nD τ).loc main_arg8) : S512x256.Idx → EReal) (ix2 h k) := by
  blk_ext [iblk, idx t]
theorem weight3 (k : Fin 256) (i : Fin 1) :
    (iblk m c 8 t : S256x1.Idx → EReal) (ix2 k i) = (m ((c.tc : Thread nD τ).loc main_arg10) : S256x1.Idx → EReal) (ix2 k i) := by
  blk_ext [iblk, idx t]

/-- The point's 4096 rows of the first weight. -/
theorem weight1 (r : Fin 4096) (h : Fin 512) (q : Fin 49184) (hq : q.val = 4096 * t.val + r.val) :
    (X0_3 m c t : S4096x512.Idx → EReal) (ix2 r h) = (m ((c.tc : Thread nD τ).loc main_arg6) : S49184x512.Idx → EReal) (ix2 q h) := by
  unfold X0_3 Pipeline.Window.fill
  rw [dif_pos (moved0_3 t _)]
  blk_ext [iblk, idx t]

/-- The last 32 rows of the first weight. -/
theorem weight1_tail (d : Fin 32) (h : Fin 512) (q : Fin 49184) (hq : q.val = 49152 + d.val) :
    (iblk m c 4 t : S32x512.Idx → EReal) (ix2 d h) = (m ((c.tc : Thread nD τ).loc main_arg6) : S49184x512.Idx → EReal) (ix2 q h) := by
  blk_ext [iblk, idx t]

end Cert.KernelIdeal.Blocks

end
-- ==== Proof.OneHot.lean ====
/-
  A table row read by a product with a one-hot column: the sum over a window of the table keeps the entry whose
  position in the window matches the row number.
-/
module

public import Idealize.ShloMosaic.Lib.Pipeline.ValueKit
public import Idealize.ShloMosaic.Lib.Pointwise

@[expose] public section

noncomputable section

namespace Cert.OneHot

open Idealize.ShloMosaic
open scoped BigOperators

/-- The one-hot entry at window position `x`, for a window that starts at row `off`. -/
theorem hot_apply (off x : Nat) (w : BitVec 32) (h : off + x < 2 ^ 32) :
    (FloatOps.sitofp (F := Ideal) FTy.f32 (BitVec.setWidth 32 (IntOp.cmpi CmpIPredicate.eq (IntOp.addi (BitVec.ofNat 32 x) (BitVec.ofNat 32 off)) w)) : EReal)
      = if off + x = w.toNat then 1 else 0 := by
  have e : (BitVec.ofNat 32 x + BitVec.ofNat 32 off = w) ↔ off + x = w.toNat := by
    rw [← BitVec.toNat_inj, BitVec.toNat_add, BitVec.toNat_ofNat, BitVec.toNat_ofNat]
    omega
  show (((BitVec.setWidth 32 (BitVec.ofBool (BitVec.ofNat 32 x + BitVec.ofNat 32 off == w))).toInt : ℝ) : EReal) = _
  by_cases hx : off + x = w.toNat
  · rw [if_pos hx, beq_iff_eq.mpr (e.mpr hx), show (BitVec.setWidth 32 (BitVec.ofBool true)).toInt = 1 by decide]
    norm_num
  · rw [if_neg hx, beq_eq_false_iff_ne.mpr (fun h => hx (e.mp h))]
    norm_num

/-- A window of `n` values against the one-hot column of the word `w` is the value at `w`'s place in the window. -/
theorem sum_hot {n : Nat} (f : Fin n → EReal) (off : Nat) (w : BitVec 32) (k : Fin n) (hk : w.toNat = off + k.val) (hn : off + n < 2 ^ 32) :
    ∑ x : Fin n, f x * (FloatOps.sitofp (F := Ideal) FTy.f32
        (BitVec.setWidth 32 (IntOp.cmpi CmpIPredicate.eq (IntOp.addi (BitVec.ofNat 32 x.val) (BitVec.ofNat 32 off)) w)) : EReal) = f k := by
  rw [Finset.sum_eq_single k]
  · rw [hot_apply _ _ _ (by omega), if_pos hk.symm]
    exact mul_one _
  · intro x _ hx
    rw [hot_apply _ _ _ (by omega), if_neg (fun h => hx (Fin.ext (by omega)))]
    exact mul_zero _
  · intro h
    exact absurd (Finset.mem_univ k) h

end Cert.OneHot

end
-- ==== Proof.Chunk.lean ====
/-
  The feature columns one grid point writes, 32 positions at a time: a window of the table times the one-hot columns
  of 32 positions' table rows, cut into one [32, 128] block to a position.
-/
module

public import proofs.«01_k».proof.Proof.Gen.KernelIdeal.Frame
public import proofs.«01_k».proof.Proof.Host
public import proofs.«01_k».proof.Proof.Blocks
public import proofs.«01_k».proof.Proof.OneHot
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Chunk

open Idealize.ShloMosaic Idealize.ShloMosaic.TcCoe Idealize.SL.RA Cert.KernelIdeal Cert.KernelIdeal.Gen Cert.KernelIdeal.Host

/-- A window of `n` values of `T` from `off` on, against the one-hot column of row `r` of the window, is `T r`. -/
theorem window_sum {n : Nat} (off : Nat) (T : Nat → EReal) (f : Fin n → EReal) (w : BitVec 32) (r : Nat) (hw : w = BitVec.ofNat 32 r)
    (lo : off ≤ r) (hi : r < off + n) (hn : off + n < 2 ^ 32) (hf : ∀ x : Fin n, f x = T (off + x.val)) :
    ∑ x : Fin n, f x * (FloatOps.sitofp (F := Ideal) FTy.f32
        (BitVec.setWidth 32 (IntOp.cmpi CmpIPredicate.eq (IntOp.addi (BitVec.ofNat 32 x.val) (BitVec.ofNat 32 off)) w)) : EReal) = T r := by
  subst hw
  have e : (BitVec.ofNat 32 r).toNat = off + (⟨r - off, by omega⟩ : Fin n).val := by
    rw [BitVec.toNat_ofNat, Nat.mod_eq_of_lt (by omega)]
    show r = off + (r - off)
    omega
  refine (OneHot.sum_hot f off _ _ e hn).trans ((hf _).trans (congrArg T ?_))
  show off + (r - off) = r
  omega

section
variable (off : Nat) (v5 : FVec Ideal S32x64 .bf16) (v39 : Vec Ideal S1x4096 .i32)

/-- 32 positions' rows, gathered from the 40 table rows that start at row `off`. -/
def chunk40 (hs : S32x64.Slices ![0, off] S32x40) : FVec Ideal S32x4096 .bf16 :=
  truncf .bf16 (matmul dot_S32x40_S40x4096_S32x4096_1_0_0_1_n_n none (extractStridedSlice S32x40 ![0, off] v5 hs)
    (truncf .bf16 (sitofp .f32 (extui 32 (cmpi .eq (addi (iota .tc S40x4096 32 [0] iota_S40x4096_d0_w32) (broadcast S40x4096 (BitVec.ofNat 32 off)))
      (broadcastTo S40x4096 (shapeCast S1x4096 v39 shapeCasts_S1x4096_S1x4096 : IVec S1x4096 32) broadcasts_S1x4096_S40x4096)) natLt_1_32)) bitsLt_bf16_f32)
    (constant S32x4096 .f32 0x00000000#32)) bitsLt_bf16_f32

/-- 32 positions' rows, gathered from the 16 table rows that start at row `off`. -/
def chunk16 (hs : S32x64.Slices ![0, off] S32x16) : FVec Ideal S32x4096 .bf16 :=
  truncf .bf16 (matmul dot_S32x16_S16x4096_S32x4096_1_0_0_1_n_n none (extractStridedSlice S32x16 ![0, off] v5 hs)
    (truncf .bf16 (sitofp .f32 (extui 32 (cmpi .eq (addi (iota .tc S16x4096 32 [0] iota_S16x4096_d0_w32) (broadcast S16x4096 (BitVec.ofNat 32 off)))
      (broadcastTo S16x4096 (shapeCast S1x4096 v39 shapeCasts_S1x4096_S1x4096 : IVec S1x4096 32) broadcasts_S1x4096_S16x4096)) natLt_1_32)) bitsLt_bf16_f32)
    (constant S32x4096 .f32 0x00000000#32)) bitsLt_bf16_f32

/-- 32 positions' rows, gathered from the 8 table rows that start at row `off`. -/
def chunk8 (hs : S32x64.Slices ![0, off] S32x8) : FVec Ideal S32x4096 .bf16 :=
  truncf .bf16 (matmul dot_S32x8_S8x4096_S32x4096_1_0_0_1_n_n none (extractStridedSlice S32x8 ![0, off] v5 hs)
    (truncf .bf16 (sitofp .f32 (extui 32 (cmpi .eq (addi (iota .tc S8x4096 32 [0] iota_S8x4096_d0_w32) (broadcast S8x4096 (BitVec.ofNat 32 off)))
      (broadcastTo S8x4096 (shapeCast S1x4096 v39 shapeCasts_S1x4096_S1x4096 : IVec S1x4096 32) broadcasts_S1x4096_S8x4096)) natLt_1_32)) bitsLt_bf16_f32)
    (constant S32x4096 .f32 0x00000000#32)) bitsLt_bf16_f32

variable (T : Nat → Fin 32 → EReal) (h5 : ∀ d g, v5 (ix2 d g) = T g.val d) (d : Fin 32) (z : Fin 4096) (r : Nat)
  (h39 : v39 (ix2 0 z) = BitVec.ofNat 32 r) (lo : off ≤ r)
include h5 h39 lo

theorem chunk40_apply (hs) (hi : r < off + 40) (hw : off + 40 ≤ 64) : chunk40 off v5 v39 hs (ix2 d z) = T r d := by
  unfold chunk40
  pointwise
  exact window_sum off (fun g => T g d) _ _ r h39 lo hi (by omega) fun x => h5 _ _

theorem chunk16_apply (hs) (hi : r < off + 16) (hw : off + 16 ≤ 64) : chunk16 off v5 v39 hs (ix2 d z) = T r d := by
  unfold chunk16
  pointwise
  exact window_sum off (fun g => T g d) _ _ r h39 lo hi (by omega) fun x => h5 _ _

theorem chunk8_apply (hs) (hi : r < off + 8) (hw : off + 8 ≤ 64) : chunk8 off v5 v39 hs (ix2 d z) = T r d := by
  unfold chunk8
  pointwise
  exact window_sum off (fun g => T g d) _ _ r h39 lo hi (by omega) fun x => h5 _ _

end

variable (m : (ℓ : Loc nD τ sig) → Buf (Elt Ideal) ℓ) (c : Dev nD)

/-- The feature columns of grid point `t`: row `32 p + d` holds entry `d` of the table rows of the point's position `p`. -/
def xt (t : Nat) : S4096x128.Idx → EReal := fun y =>
  table m c (row m c (y 1) (t * 128 + (y 0).val / 32)) ⟨(y 0).val % 32, Nat.mod_lt _ (by decide)⟩

/-- A block of the feature columns, cut from 32 positions' rows. -/
theorem block_eq (t o off : Nat) (E : FVec Ideal S32x4096 .bf16) (hs : S32x4096.Slices ![0, o] S32x128) (hc : S32x128.ShapeCasts S32x128)
    (inb : ∀ a, (![off, 0] : Fin 2 → Nat) a + S32x128.size a ≤ S4096x128.size a) (ho : o % 128 = 0) (hoff : off % 1024 = o / 4)
    (hE : ∀ d z, E (ix2 d z) = table m c (row m c ⟨z.val % 128, Nat.mod_lt _ (by decide)⟩ (t * 128 + (32 * (off / 1024) + z.val / 128))) d)
    (x : S32x128.Idx) :
    shapeCast S32x128 (extractStridedSlice S32x128 ![0, o] E hs) hc x = xt m c t ((Rect.unit (s := S4096x128) ![off, 0] S32x128.size inb).emb x) := by
  idx_vars x
  have e : (Rect.unit (s := S4096x128) ![off, 0] S32x128.size inb).emb (ix2 x0 x1) = ix2 (⟨off + x0.val, by have := inb 0; simp at this; omega⟩ : Fin 4096) x1 := by
    funext a
    fin_cases a <;> exact Fin.ext (by simp [Rect.emb, Rect.unit])
  rw [e]
  pointwise
  rw [hE]
  unfold xt
  have e1 : (⟨(o + x1.val) % 128, Nat.mod_lt _ (by decide)⟩ : Fin 128) = x1 := Fin.ext (by show (o + x1.val) % 128 = x1.val; omega)
  have e2 : t * 128 + (32 * (off / 1024) + (o + x1.val) / 128) = t * 128 + (off + x0.val) / 32 := by omega
  have e3 : x0 = (⟨(off + x0.val) % 32, Nat.mod_lt _ (by decide)⟩ : Fin 32) := Fin.ext (by show x0.val = (off + x0.val) % 32; omega)
  show table m c (row m c ⟨(o + x1.val) % 128, _⟩ _) _ = table m c (row m c x1 (t * 128 + (off + x0.val) / 32)) ⟨(off + x0.val) % 32, _⟩
  rw [e1, e2, ← e3]

/-- The table operand, rounded, is the merged table. -/
theorem tab_block (t : Fin cfg0.N) (d : Fin 32) (g : Fin 64) :
    k0_pay731 (View.ld (iblk m c 2 t : Vec Ideal S32x64 .f32) (Rect.unit (s := S32x64) ![0, 0] S32x64.size inb_S32x64_S32x64_0_0)) (ix2 d g) = table m c g.val d := by
  pointwise [k0_pay731]
  exact (Blocks.tab m c t d g).trans <| table_apply m c d g

/-- A quarter of the point's row of the first operand holds the table rows of 32 positions. -/
theorem ids_block (t : Fin cfg0.N) (q : Nat) (o : Fin 2 → Nat) (inb : ∀ a, o a + S1x4096.size a ≤ S12x16384.size a) (h0 : o 0 = t.val) (h1 : o 1 = 4096 * q) (z : Fin 4096) :
    View.ld (iblk m c 0 t : Vec Ideal S12x16384 .i32) (Rect.unit (s := S12x16384) o S1x4096.size inb) (ix2 0 z)
      = BitVec.ofNat 32 (row m c ⟨z.val % 128, Nat.mod_lt _ (by decide)⟩ (t.val * 128 + (32 * q + z.val / 128))) := by
  pointwise
  refine (Blocks.ids m c t _ _).trans ((ids_apply m c _ _).trans (congrArg (BitVec.ofNat 32) ?_))
  congr 1
  · exact Fin.ext (by show (o 1 + z.val) % 128 = z.val % 128; omega)
  · show o 0 * 128 + (o 1 + z.val) / 128 = _
    omega

/-- The scratch, read back whole after blocks of `G` were stored all over it, is `G`. -/
theorem scratch_read (G : S4096x128.Idx → EReal) (L : List (View.Piece (Elt Ideal) S4096x128 .bf16)) (inb)
    (hL : View.PiecesOf (Val := Elt Ideal) (e := .bf16) G L) (hc : View.Piece.tiledL L ![32, 128] = true) :
    scM0_1.view.readCov L (Rect.unit ![0, 0] S4096x128.size inb).toLoadRect = (G : FVec Ideal S4096x128 .bf16) := by
  rw [View.readCov_eq_canon']
  funext j
  have e : (Rect.unit (s := S4096x128) ![0, 0] S4096x128.size inb).toLoadRect.idx j = j := by
    funext a
    fin_cases a <;> exact Fin.ext (by simp [LoadRect.idx, Rect.unit])
  rw [e]
  have h := View.canon_append_of_piecesOf (Val := Elt Ideal) G [] L hL j (View.cover_of_tiledL L _ hc j)
  rwa [List.append_nil] at h

end Cert.KernelIdeal.Chunk

end
-- ==== Proof.Point.lean ====
/-
  One block of feature columns as the kernel computes it at a grid point, for each width of table window, and the
  rows each point's positions may name.
-/
module

public import proofs.«01_k».proof.Proof.Chunk

@[expose] public section

set_option maxRecDepth 16384

noncomputable section

namespace Cert.KernelIdeal.Point

open Idealize.ShloMosaic Idealize.ShloMosaic.TcCoe Idealize.SL.RA Cert.KernelIdeal Cert.KernelIdeal.Gen Cert.KernelIdeal.Host Cert.KernelIdeal.Chunk

variable (m : (ℓ : Loc nD τ sig) → Buf (Elt Ideal) ℓ) (c : Dev nD)

/-- The point's row of the first operand, as its loads compute it. -/
theorem off_point : ∀ t : Fin cfg0.N, (Scalar.indexCast (BitVec.ofNat 32 (grid0.coords t 0).val) : Index).toNat = t.val := by decide +kernel

section
variable (hr : Spec.InRange (rna m c) (tis m c)) (b : Fin 128)
include hr

/-- The rows that the positions of one kind name. -/
theorem row_range (p : Nat) (hp : p < 1537) : (p < 1 → row m c b p < 29) ∧ (1 ≤ p → p < 513 → 29 ≤ row m c b p ∧ row m c b p < 33)
    ∧ (513 ≤ p → p < 1025 → 34 ≤ row m c b p ∧ row m c b p < 38) ∧ (1025 ≤ p → 38 ≤ row m c b p ∧ row m c b p < 42) := by
  refine ⟨fun h => ?_, fun h h' => ?_, fun h h' => ?_, fun h => ?_⟩
  · have e : p = 0 := by omega
    subst e
    have := hr.tis_lt b
    unfold row
    rw [Spec.gid_tissue]
    exact this
  · obtain ⟨l, rfl⟩ : ∃ l : Fin 512, p = 1 + l.val := ⟨⟨p - 1, by omega⟩, by show p = 1 + (p - 1); omega⟩
    have := hr.rna_lt b l 0
    unfold row
    rw [Spec.gid_seq]
    omega
  · obtain ⟨l, rfl⟩ : ∃ l : Fin 512, p = 513 + l.val := ⟨⟨p - 513, by omega⟩, by show p = 513 + (p - 513); omega⟩
    have := hr.rna_lt b l 1
    unfold row
    rw [Spec.gid_sec]
    omega
  · obtain ⟨l, rfl⟩ : ∃ l : Fin 512, p = 1025 + l.val := ⟨⟨p - 1025, by omega⟩, by show p = 1025 + (p - 1025); omega⟩
    have := hr.rna_lt b l 2
    unfold row
    rw [Spec.gid_loop]
    omega

end

section
variable (t : Fin cfg0.N) (w : Nat)

/-- A block of feature columns that the kernel gathers from a window of 40 table rows. -/
theorem block40 (hw : S32x64.Slices ![0, w] S32x40) (hi : w + 40 ≤ 64) (hrow : ∀ b p, p < 128 → w ≤ row m c b (t.val * 128 + p) ∧ row m c b (t.val * 128 + p) < w + 40)
    (o off : Nat) (hs : S32x4096.Slices ![0, o] S32x128) (hc : S32x128.ShapeCasts S32x128)
    (inb : ∀ a, (![off, 0] : Fin 2 → Nat) a + S32x128.size a ≤ S4096x128.size a) (ho : o % 128 = 0) (hoff : off % 1024 = o / 4) (hlt : off < 4096)
    (f : Fin 2 → Nat) (finb : ∀ a, f a + S1x4096.size a ≤ S12x16384.size a) (hf0 : f 0 = t.val) (hf1 : f 1 = 4096 * (off / 1024)) (x : S32x128.Idx) :
    shapeCast S32x128 (extractStridedSlice S32x128 ![0, o] (chunk40 w (k0_pay731 (View.ld (iblk m c 2 t : Vec Ideal S32x64 .f32) (Rect.unit (s := S32x64) ![0, 0] S32x64.size inb_S32x64_S32x64_0_0)))
      (View.ld (iblk m c 0 t : Vec Ideal S12x16384 .i32) (Rect.unit (s := S12x16384) f S1x4096.size finb)) hw) hs) hc x
    = xt m c t.val ((Rect.unit (s := S4096x128) ![off, 0] S32x128.size inb).emb x) :=
  block_eq m c t.val o off _ hs hc inb ho hoff (fun d z => chunk40_apply w _ _ (table m c) (fun d g => tab_block m c t d g) d z _
    (ids_block m c t (off / 1024) f finb hf0 hf1 z) (hrow _ _ (by omega)).1 hw (hrow _ _ (by omega)).2 hi) x

/-- A block gathered from a window of 16 rows. -/
theorem block16 (hw : S32x64.Slices ![0, w] S32x16) (hi : w + 16 ≤ 64) (hrow : ∀ b p, p < 128 → w ≤ row m c b (t.val * 128 + p) ∧ row m c b (t.val * 128 + p) < w + 16)
    (o off : Nat) (hs : S32x4096.Slices ![0, o] S32x128) (hc : S32x128.ShapeCasts S32x128)
    (inb : ∀ a, (![off, 0] : Fin 2 → Nat) a + S32x128.size a ≤ S4096x128.size a) (ho : o % 128 = 0) (hoff : off % 1024 = o / 4) (hlt : off < 4096)
    (f : Fin 2 → Nat) (finb : ∀ a, f a + S1x4096.size a ≤ S12x16384.size a) (hf0 : f 0 = t.val) (hf1 : f 1 = 4096 * (off / 1024)) (x : S32x128.Idx) :
    shapeCast S32x128 (extractStridedSlice S32x128 ![0, o] (chunk16 w (k0_pay731 (View.ld (iblk m c 2 t : Vec Ideal S32x64 .f32) (Rect.unit (s := S32x64) ![0, 0] S32x64.size inb_S32x64_S32x64_0_0)))
      (View.ld (iblk m c 0 t : Vec Ideal S12x16384 .i32) (Rect.unit (s := S12x16384) f S1x4096.size finb)) hw) hs) hc x
    = xt m c t.val ((Rect.unit (s := S4096x128) ![off, 0] S32x128.size inb).emb x) :=
  block_eq m c t.val o off _ hs hc inb ho hoff (fun d z => chunk16_apply w _ _ (table m c) (fun d g => tab_block m c t d g) d z _
    (ids_block m c t (off / 1024) f finb hf0 hf1 z) (hrow _ _ (by omega)).1 hw (hrow _ _ (by omega)).2 hi) x

/-- A block gathered from a window of 8 rows. -/
theorem block8 (hw : S32x64.Slices ![0, w] S32x8) (hi : w + 8 ≤ 64) (hrow : ∀ b p, p < 128 → w ≤ row m c b (t.val * 128 + p) ∧ row m c b (t.val * 128 + p) < w + 8)
    (o off : Nat) (hs : S32x4096.Slices ![0, o] S32x128) (hc : S32x128.ShapeCasts S32x128)
    (inb : ∀ a, (![off, 0] : Fin 2 → Nat) a + S32x128.size a ≤ S4096x128.size a) (ho : o % 128 = 0) (hoff : off % 1024 = o / 4) (hlt : off < 4096)
    (f : Fin 2 → Nat) (finb : ∀ a, f a + S1x4096.size a ≤ S12x16384.size a) (hf0 : f 0 = t.val) (hf1 : f 1 = 4096 * (off / 1024)) (x : S32x128.Idx) :
    shapeCast S32x128 (extractStridedSlice S32x128 ![0, o] (chunk8 w (k0_pay731 (View.ld (iblk m c 2 t : Vec Ideal S32x64 .f32) (Rect.unit (s := S32x64) ![0, 0] S32x64.size inb_S32x64_S32x64_0_0)))
      (View.ld (iblk m c 0 t : Vec Ideal S12x16384 .i32) (Rect.unit (s := S12x16384) f S1x4096.size finb)) hw) hs) hc x
    = xt m c t.val ((Rect.unit (s := S4096x128) ![off, 0] S32x128.size inb).emb x) :=
  block_eq m c t.val o off _ hs hc inb ho hoff (fun d z => chunk8_apply w _ _ (table m c) (fun d g => tab_block m c t d g) d z _
    (ids_block m c t (off / 1024) f finb hf0 hf1 z) (hrow _ _ (by omega)).1 hw (hrow _ _ (by omega)).2 hi) x

end

end Cert.KernelIdeal.Point

end
-- ==== Proof.Step.lean ====
/-
  What one grid point leaves in the carried accumulator: the point's feature columns, transposed, times its block of the
  first weight, added to what the point before left (the first point starts from zero).
-/
module

public import proofs.«01_k».proof.Proof.Point
public import proofs.«01_k».proof.Proof.Gen.KernelIdeal.Value

@[expose] public section

set_option maxRecDepth 16384

noncomputable section

namespace Cert.KernelIdeal.Step

open Idealize.ShloMosaic Idealize.ShloMosaic.TcCoe Idealize.SL.RA Cert.KernelIdeal Cert.KernelIdeal.Gen Cert.KernelIdeal.Value Cert.KernelIdeal.Host Cert.KernelIdeal.Chunk Cert.KernelIdeal.Point

variable (m : (ℓ : Loc nD τ sig) → Buf (Elt Ideal) ℓ) (c : Dev nD) (hr : Spec.InRange (rna m c) (tis m c)) (t : Fin cfg0.N)
  (acc : Vec Ideal S128x1 .f32 × Vec Ideal S128x512 .f32) (b : Fin 128) (j : Fin 512)
include hr

-- all six ways run in this one proof
set_option maxHeartbeats 4000000 in
/-- The six ways through the body differ in the window of the table they gather from: 40 rows at point 0, 8 rows from 29 at points 1 to 3,
    16 rows from 29 at point 4, 8 rows from 34 at points 5 to 8, 8 rows from 38 after. -/
theorem step : ((stAt0 m c t.val t.isLt acc).2 : S128x512.Idx → EReal) (ix2 b j)
    = (if t.val = 0 then 0 else acc.2 (ix2 b j)) + ∑ r : Fin 4096, xt m c t.val (ix2 r b) * (X0_3 m c t : S4096x512.Idx → EReal) (ix2 r j) := by
  have ht : t.val < 12 := t.isLt
  have hp := fun b p (h : p < 128) => row_range m c hr b (t.val * 128 + p) (by omega)
  obtain h | h | h | h | h | h : t.val = 0 ∨ (1 ≤ t.val ∧ t.val ≤ 3) ∨ t.val = 4 ∨ (5 ≤ t.val ∧ t.val ≤ 8) ∨ (9 ≤ t.val ∧ t.val < 11) ∨ t.val = 11 := by omega
  all_goals
    first
    | rw [stAt0_A m c t acc (by omega) (by omega) (by omega) (by omega) (by omega) (by omega) (by omega), if_pos h]
      have hb := block40 m c t 0 (by decide) (by decide) fun b p h' => by have := hp b p h'; omega
    | rw [stAt0_B m c t acc (by omega) (by omega) (by omega) (by omega) (by omega) (by omega) (by omega), if_neg (by omega)]
      have hb := block8 m c t 29 (by decide) (by decide) fun b p h' => by have := hp b p h'; omega
    | rw [stAt0_C m c t acc (by omega) (by omega) (by omega) (by omega) (by omega) (by omega) (by omega), if_neg (by omega)]
      have hb := block16 m c t 29 (by decide) (by decide) fun b p h' => by have := hp b p h'; omega
    | rw [stAt0_D m c t acc (by omega) (by omega) (by omega) (by omega) (by omega) (by omega) (by omega), if_neg (by omega)]
      have hb := block8 m c t 34 (by decide) (by decide) fun b p h' => by have := hp b p h'; omega
    | rw [stAt0_E m c t acc (by omega) (by omega) (by omega) (by omega) (by omega) (by omega) (by omega), if_neg (by omega)]
      have hb := block8 m c t 38 (by decide) (by decide) fun b p h' => by have := hp b p h'; omega
    | rw [stAt0_F m c t acc (by omega) (by omega) (by omega) (by omega) (by omega) (by omega) (by omega), if_neg (by omega)]
      have hb := block8 m c t 38 (by decide) (by decide) fun b p h' => by have := hp b p h'; omega
    dsimp only
    frame_open
    simp only [View.readAt_eq_ld, Memref.IsWhole.read_unread]
    rw [scratch_read (xt m c t.val) _ _ (by
      repeat' first | exact trivial | apply And.intro
      all_goals (intro x; exact hb _ _ (by decide) _ (by decide) (by decide) (by decide) (by decide) _ _ (off_point t) rfl x)) (by sl_kernel_rfl)]
    frame_out
    pointwise [k0_pay1, k0_pay732, k0_pay730]
    try rw [zero_add]
    try rw [read_unread_whole]

end Cert.KernelIdeal.Step

end
-- ==== Proof.Last.lean ====
/-
  What the last grid point stores as the result: the accumulator with the last position's 32 columns added, through the
  biases, the two rectifiers and the two later weights.
-/
module

public import proofs.«01_k».proof.Proof.Point
public import proofs.«01_k».proof.Proof.Gen.KernelIdeal.Value

@[expose] public section

set_option maxRecDepth 16384

noncomputable section

namespace Cert.KernelIdeal.Last

open Idealize.ShloMosaic Idealize.ShloMosaic.TcCoe Idealize.SL.RA Cert.KernelIdeal Cert.KernelIdeal.Gen Cert.KernelIdeal.Value Cert.KernelIdeal.Host Cert.KernelIdeal.Chunk Cert.KernelIdeal.Point

variable (m : (ℓ : Loc nD τ sig) → Buf (Elt Ideal) ℓ) (c : Dev nD) (hr : Spec.InRange (rna m c) (tis m c))
include hr

/-- The last position's row, by its one-hot column over the whole table. -/
theorem tail_sum (t : Fin cfg0.N) (b : Fin 128) (d : Fin 32) :
    ∑ x : Fin 64, (show EReal from (iblk m c 2 t : S32x64.Idx → EReal) (ix2 d x)) * (FloatOps.sitofp (F := Ideal) FTy.f32
      (BitVec.setWidth 32 (IntOp.cmpi CmpIPredicate.eq (BitVec.ofNat 32 x.val) ((iblk m c 1 t : Vec Ideal S1x128 .i32) (ix2 0 b)))) : EReal)
    = table m c (row m c b 1536) d := by
  have hp := row_range m c hr b 1536 (by decide)
  refine Eq.trans (Finset.sum_congr rfl fun x _ => ?_) (window_sum 0 (fun g => table m c g d) (fun x : Fin 64 => (iblk m c 2 t : S32x64.Idx → EReal) (ix2 d x))
    ((iblk m c 1 t : Vec Ideal S1x128 .i32) (ix2 0 b)) (row m c b 1536) ((Blocks.tail m c t 0 b).trans (tail_apply m c 0 b)) (by omega) (by omega) (by decide) fun x => ?_)
  · rw [show IntOp.addi (BitVec.ofNat 32 x.val) (BitVec.ofNat 32 0) = BitVec.ofNat 32 x.val from BitVec.add_zero _]
  · rw [Nat.zero_add]
    exact (Blocks.tab m c t d x).trans (table_apply m c d x)

/-- The point's result is the network's later layers over the accumulated products, the last position's among them. -/
theorem out (t : Fin cfg0.N) (acc : Vec Ideal S128x1 .f32 × Vec Ideal S128x512 .f32) (b : Fin 128) (z : Fin 1) (h : t.val = 11) : ((stAt0 m c t.val t.isLt acc).1 : S128x1.Idx → EReal) (ix2 b z)
    = Spec.net (fun j => acc.2 (ix2 b j) + ∑ r : Fin 4096, xt m c t.val (ix2 r b) * (X0_3 m c t : S4096x512.Idx → EReal) (ix2 r j)
        + ∑ d : Fin 32, table m c (row m c b 1536) d * (iblk m c 4 t : S32x512.Idx → EReal) (ix2 d j))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) := by
  have hp := fun b p (h : p < 128) => row_range m c hr b (t.val * 128 + p) (by omega)
  rw [stAt0_F m c t acc (by omega) (by omega) (by omega) (by omega) (by omega) (by omega) (by omega)]
  have hb := block8 m c t 38 (by decide) (by decide) fun b p h' => by have := hp b p h'; omega
  dsimp only
  frame_open
  simp only [View.readAt_eq_ld, Memref.IsWhole.read_unread]
  rw [scratch_read (xt m c t.val) _ _ (by
    repeat' first | exact trivial | apply And.intro
    all_goals (intro x; exact hb _ _ (by decide) _ (by decide) (by decide) (by decide) (by decide) _ _ (off_point t) rfl x)) (by sl_kernel_rfl)]
  frame_out
  clear hb hp
  pointwise [k0_pay1, k0_pay2, k0_pay728, k0_pay729, k0_pay731, k0_pay732]
  rw [read_unread_whole]
  have ez : z = 0 := Subsingleton.elim _ _
  subst ez
  unfold Spec.net
  refine congrArg₂ (· + ·) (Finset.sum_congr rfl fun k _ => congrArg₂ (· * ·) (congrArg (max · 0) (congrArg₂ (· + ·)
    (Finset.sum_congr rfl fun j _ => congrArg₂ (· * ·) (congrArg (max · 0) (congrArg₂ (· + ·) (congrArg₂ (· + ·) rfl
      (Finset.sum_congr rfl fun d _ => congrArg₂ (· * ·) (tail_sum m c hr t b d) rfl)) ?_)) ?_) ?_)) ?_) ?_
  · exact (Blocks.bias1 m c t 0 j).trans (bias1_apply m c 0 j)
  · exact Blocks.weight2 m c t j k
  · exact (Blocks.bias2 m c t 0 k).trans (bias2_apply m c 0 k)
  · exact Blocks.weight3 m c t k 0
  · exact (Blocks.bias3 m c t 0 0).trans (bias3_apply m c 0 0)

end Cert.KernelIdeal.Last

end
-- ==== Proof.Fold.lean ====
/-
  The kernel's result: over the grid the accumulator gathers the products of the first layer, and the last point puts
  them through the later layers, so that the result is the network of the features.
-/
module

public import proofs.«01_k».proof.Proof.Step
public import proofs.«01_k».proof.Proof.Last

@[expose] public section

set_option maxRecDepth 16384

noncomputable section

namespace Cert.KernelIdeal.Fold

open Idealize.ShloMosaic Idealize.ShloMosaic.TcCoe Idealize.SL.RA Cert.KernelIdeal Cert.KernelIdeal.Gen Cert.KernelIdeal.Value Cert.KernelIdeal.Host Cert.KernelIdeal.Chunk

variable (m : (ℓ : Loc nD τ sig) → Buf (Elt Ideal) ℓ) (c : Dev nD)

/-- Feature `q` of sequence `b`. -/
abbrev feat (b : Fin 128) (q : Nat) : EReal := Spec.feature (rna m c) (tis m c) (ttab m c) (stab m c) (etab m c) (ltab m c) b q

/-- The first weight. -/
abbrev w1 : S49184x512.Idx → EReal := m ((c.tc : Thread nD τ).loc main_arg6)

/-- The product of feature `q` with its row of the first weight, at column `j`. -/
def term (b : Fin 128) (j : Fin 512) (q : Nat) : EReal := feat m c b q * (if h : q < 49184 then w1 m c (ix2 ⟨q, h⟩ j) else 0)

/-- What one grid point adds, as the terms of its 4096 features. -/
theorem point_sum (t : Fin cfg0.N) (b : Fin 128) (j : Fin 512) :
    ∑ r : Fin 4096, xt m c t.val (ix2 r b) * (X0_3 m c t : S4096x512.Idx → EReal) (ix2 r j) = ∑ r ∈ Finset.range 4096, term m c b j (4096 * t.val + r) := by
  have ht : t.val < 12 := t.isLt
  rw [Finset.sum_range]
  refine Finset.sum_congr rfl fun r _ => ?_
  have hr := r.isLt
  unfold term
  rw [dif_pos (by omega)]
  refine congrArg₂ (· * ·) ?_ (Blocks.weight1 m c t r j _ rfl)
  refine (Spec.feature_at _ _ _ _ _ _ b (t.val * 128 + r.val / 32) ⟨r.val % 32, Nat.mod_lt _ (by decide)⟩).symm.trans (congrArg _ ?_)
  show 32 * (t.val * 128 + r.val / 32) + r.val % 32 = 4096 * t.val + r.val
  omega

/-- What the last position adds. -/
theorem tail_sum (t : Fin cfg0.N) (b : Fin 128) (j : Fin 512) :
    ∑ d : Fin 32, table m c (row m c b 1536) d * (iblk m c 4 t : S32x512.Idx → EReal) (ix2 d j) = ∑ d ∈ Finset.range 32, term m c b j (49152 + d) := by
  rw [Finset.sum_range]
  refine Finset.sum_congr rfl fun d _ => ?_
  have hd := d.isLt
  unfold term
  rw [dif_pos (by omega)]
  exact congrArg₂ (· * ·) (Spec.feature_at _ _ _ _ _ _ b 1536 d).symm (Blocks.weight1_tail m c t d j _ rfl)

variable (hr : Spec.InRange (rna m c) (tis m c))
include hr

/-- The accumulator after point `n`: the terms of the first `n + 1` points. -/
theorem acc_eq (b : Fin 128) (j : Fin 512) : ∀ (n : Nat) (h : 0 + n < cfg0.N),
    ((Pipeline.accAt (fun n h => stAt0 m c n h junk0) (stAt0 m c) 0 n h).2 : S128x512.Idx → EReal) (ix2 b j)
      = ∑ q ∈ Finset.range (4096 * (n + 1)), term m c b j q
  | 0, h => by
    refine (Step.step m c hr ⟨0, h⟩ junk0 b j).trans ?_
    rw [point_sum, if_pos rfl, zero_add]
    simp only [Nat.mul_zero, Nat.zero_add, Nat.mul_one]
  | n + 1, h => by
    refine (Step.step m c hr ⟨0 + (n + 1), h⟩ _ b j).trans ?_
    rw [point_sum, if_neg (by show ¬ 0 + (n + 1) = 0; omega), acc_eq b j n (Nat.lt_of_succ_lt h), show 4096 * (n + 1 + 1) = 4096 * (n + 1) + 4096 by omega, Finset.sum_range_add]
    simp only [Nat.zero_add]

/-- The kernel's result is the network of the features. -/
theorem res_apply (b : Fin 128) (z : Fin 1) : (G10 m c : S128x1.Idx → EReal) (ix2 b z)
    = Spec.net (fun j => ∑ q : Fin 49184, feat m c b q.val * w1 m c (ix2 q j))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) := by
  rw [G10_last]
  refine (Last.out m c hr ⟨0 + (10 + 1), lt_of_lt_of_eq (by decide) N_0.symm⟩ _ b z rfl).trans (congrArg (fun s => Spec.net s _ _ _ _ _) (funext fun j => ?_))
  rw [tail_sum, point_sum, acc_eq m c hr b j 10]
  simp only [Nat.zero_add, Nat.reduceAdd, Nat.reduceMul]
  have h1 := Finset.sum_range_add (term m c b j) 45056 4096
  have h2 := Finset.sum_range_add (term m c b j) 49152 32
  simp only [Nat.reduceAdd] at h1 h2
  rw [← h1, ← h2, Finset.sum_range]
  refine Finset.sum_congr rfl fun q _ => ?_
  unfold term
  rw [dif_pos q.isLt]

end Cert.KernelIdeal.Fold

end
-- ==== Proof.lean ====
/-
  The proof of `Cert.Claim`. The frames are those of the generated modules; the reference's is its run weakened, its
  counters zero because it declares no semaphore. For the value claim both results are read at a sequence, where each
  is the perceptron over that sequence's features.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_ids_in_range
public import proofs.«01_k».proof.Proof.Ref
public import proofs.«01_k».proof.Proof.Fold
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_ids_in_range : quiescent_ReferenceIdeal_pre_ids_in_range := fun m ρ _ =>
  quiescent_ReferenceIdeal m ρ trivial

/-- Both results are, at each sequence, the network of its features. -/
theorem algebraic_KernelIdeal_ReferenceIdeal_pre_ids_in_range : algebraic_KernelIdeal_ReferenceIdeal_pre_ids_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hr := Spec.inRange_of_fn _ _ _ _ _ _ _ _ _ _ _ _ (hpre c)
  obtain ⟨h0, h1, h2, h3, h4, h5, h6, h7, h8, h9, h10, h11⟩ := hagree c
  funext i
  obtain ⟨b, z, rfl⟩ : ∃ (b : Fin 128) (z : Fin 1), i = ix2 b z := ⟨i 0, i 1, eq_ix2 i⟩
  refine Eq.trans ?_ (Cert.KernelIdeal.Fold.res_apply m c hr b z).symm
  refine (Cert.Ref.res_apply m' c ?_ b z).trans ?_
  · rw [h0, h1]
    exact hr
  · rw [h0, h1, h2, h3, h4, h5, h6, h7, h8, h9, h10, h11]

theorem claim : Cert.Claim := ⟨Cert.Kernel.Gen.facts, Cert.KernelIdeal.Gen.facts, Cert.ReferenceIdeal.Gen.facts, Cert.Pre_ids_in_range.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_ids_in_range, (trivial : preserves_Kernel_KernelIdeal),
  algebraic_KernelIdeal_ReferenceIdeal_pre_ids_in_range⟩

end Cert.Proof

end
